-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 16384]⟩ ⟨2, ![2048, 32768]⟩ (Layout.meshBlock [2, 4, 4] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x2048 : Shape := ⟨2, ![1024, 2048]⟩
abbrev S2048x16384 : Shape := ⟨2, ![2048, 16384]⟩
abbrev S_ : Shape := ⟨0, ![]⟩

class Facts : Prop where
  bcast_S_S1024x2048 : S_.BroadcastsInDim S1024x2048 (![] : Fin 0 → Fin S1024x2048.rank)
  bcast_S_S2048x16384 : S_.BroadcastsInDim S2048x16384 (![] : Fin 0 → Fin S2048x16384.rank)

variable [Facts]

def fn {F : FTy → Type} [FloatOps F] (main_arg0 : FVec F S1024x2048 .f32) (main_arg1 : FVec F S2048x16384 .f32) : IVec S1024x2048 1 × IVec S2048x16384 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_v3 : FVec F S2048x16384 .f32 := Host.absf main_arg1
  let main_cst_0 : FVec F S_ .f32 := constant S_ .f32 0x7F800000#32
  let main_v4 : FVec F S2048x16384 .f32 := broadcastInDim S2048x16384 ![] bcast_S_S2048x16384 main_cst_0
  let main_v5 : IVec S2048x16384 1 := cmpf .olt main_v3 main_v4
  (main_v2, main_v5)
-- ==== Pre_finite_ReferenceIdeal.lean ====
abbrev S1024x2048 : Shape := ⟨2, ![1024, 2048]⟩
abbrev S2048x32768 : Shape := ⟨2, ![2048, 32768]⟩
abbrev S_ : Shape := ⟨0, ![]⟩

class Facts : Prop where
  bcast_S_S1024x2048 : S_.BroadcastsInDim S1024x2048 (![] : Fin 0 → Fin S1024x2048.rank)
  bcast_S_S2048x32768 : S_.BroadcastsInDim S2048x32768 (![] : Fin 0 → Fin S2048x32768.rank)

variable [Facts]

def fn {F : FTy → Type} [FloatOps F] (main_arg0 : FVec F S1024x2048 .f32) (main_arg1 : FVec F S2048x32768 .f32) : IVec S1024x2048 1 × IVec S2048x32768 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_v3 : FVec F S2048x32768 .f32 := Host.absf main_arg1
  let main_cst_0 : FVec F S_ .f32 := constant S_ .f32 0x7F800000#32
  let main_v4 : FVec F S2048x32768 .f32 := broadcastInDim S2048x32768 ![] bcast_S_S2048x32768 main_cst_0
  let main_v5 : IVec S2048x32768 1 := cmpf .olt main_v3 main_v4
  (main_v2, main_v5)
-- ==== Kernel.lean ====
abbrev S1024x2048 : Shape := ⟨2, ![1024, 2048]⟩
abbrev S2048x16384 : Shape := ⟨2, ![2048, 16384]⟩
abbrev S1024x16384 : Shape := ⟨2, ![1024, 16384]⟩
abbrev S2048x512 : Shape := ⟨2, ![2048, 512]⟩
abbrev S2x1024x512 : Shape := ⟨3, ![2, 1024, 512]⟩
abbrev S2 : Shape := ⟨1, ![2]⟩
abbrev S32 : Shape := ⟨1, ![32]⟩
abbrev S_ : Shape := ⟨0, ![]⟩
abbrev S1 : Shape := ⟨1, ![1]⟩
abbrev S1x1024x512 : Shape := ⟨3, ![1, 1024, 512]⟩
abbrev S1024x512 : Shape := ⟨2, ![1024, 512]⟩
abbrev S1024x32768 : Shape := ⟨2, ![1024, 32768]⟩
abbrev S64x16384 : Shape := ⟨2, ![64, 16384]⟩
abbrev S64x32768 : Shape := ⟨2, ![64, 32768]⟩
abbrev S64 : Shape := ⟨1, ![64]⟩
abbrev S64x1 : Shape := ⟨2, ![64, 1]⟩

abbrev nBuf : Space → Nat
  | .hbm => 5
  | .vmem => 10
  | .smem => 0
  | _ => 0

abbrev bufTy : (tb : Table) → Fin (tcTables nBuf tb) → BufTy
  | .hbm, ⟨0, _⟩ => ⟨S1024x2048, .f32⟩
  | .hbm, ⟨1, _⟩ => ⟨S2048x16384, .f32⟩
  | .hbm, ⟨2, _⟩ => ⟨S1024x16384, .f32⟩
  | .hbm, ⟨3, _⟩ => ⟨S1024x16384, .f32⟩
  | .hbm, ⟨4, _⟩ => ⟨S1024x32768, .f32⟩
  | .local _ .vmem, ⟨0, _⟩ => ⟨S1024x2048, .f32⟩
  | .local _ .vmem, ⟨1, _⟩ => ⟨S2048x512, .f32⟩
  | .local _ .vmem, ⟨2, _⟩ => ⟨S2048x512, .f32⟩
  | .local _ .vmem, ⟨3, _⟩ => ⟨S2x1024x512, .f32⟩
  | .local _ .vmem, ⟨4, _⟩ => ⟨S64x16384, .f32⟩
  | .local _ .vmem, ⟨5, _⟩ => ⟨S64x16384, .f32⟩
  | .local _ .vmem, ⟨6, _⟩ => ⟨S64x16384, .f32⟩
  | .local _ .vmem, ⟨7, _⟩ => ⟨S64x16384, .f32⟩
  | .local _ .vmem, ⟨8, _⟩ => ⟨S64x32768, .f32⟩
  | .local _ .vmem, ⟨9, _⟩ => ⟨S64x32768, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  (ofTc nBuf bufTy 1 75 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem1_0 : DmaSem sig := 1
abbrev cc0_sem1_1 : DmaSem sig := 2
abbrev cc1_sem0_0 : DmaSem sig := 69
abbrev cc1_sem0_1 : DmaSem sig := 70
abbrev cc1_sem1_0 : DmaSem sig := 71
abbrev cc1_sem1_1 : DmaSem sig := 72
abbrev cc1_sem2_0 : DmaSem sig := 73
abbrev cc1_sem2_1 : DmaSem sig := 74
abbrev barrier0 : Sem sig := 0

abbrev nD : Nat := 32
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_4 : BitVec 32 := 0#32
  let v13 : BitVec 1 := Scalar.cmpi .ne v12 c0_i32_4
  v13

def k0_dev1 (d0 : Dev nD) : Nat :=
  let c0_i32_26 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_25 : BitVec 32 := 16#32
  let v50 : BitVec 32 := Scalar.muli v9 c16_i32_25
  let v51 : BitVec 32 := Scalar.addi c0_i32_26 v50
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_27 : BitVec 32 := 4#32
  let v52 : BitVec 32 := Scalar.muli v5 c4_i32_27
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_28 : BitVec 32 := 1#32
  let v54 : BitVec 32 := Scalar.muli v8 c1_i32_28
  let v55 : BitVec 32 := Scalar.addi v53 v54
  v55.toNat
def k0_cond2 (i : grid0.Coords) : BitVec 1 :=
  let arg0 : BitVec 32 := BitVec.ofNat 32 (i 0).val
  let c2_i32_5 : BitVec 32 := 2#32
  let v14 : BitVec 1 := Scalar.cmpi .sge arg0 c2_i32_5
  let v15 : BitVec 32 := Scalar.extui v14
  let c0_i32_6 : BitVec 32 := 0#32
  let v16 : BitVec 1 := Scalar.cmpi .ne v15 c0_i32_6
  v16

def k0_off1 (i : grid0.Coords) : Fin 1 → Nat :=
  let arg0 : BitVec 32 := BitVec.ofNat 32 (i 0).val
  let c2_i32_24 : BitVec 32 := 2#32
  let v49 : BitVec 32 := Scalar.subi arg0 c2_i32_24
  ![v49.toNat]
def k0_off2 (i : grid0.Coords) : Fin 3 → Nat :=
  let arg0 : BitVec 32 := BitVec.ofNat 32 (i 0).val
  let c2_i32_3 : BitVec 32 := 2#32
  let v10 : BitVec 32 := Scalar.remsi arg0 c2_i32_3
  let c0_i32_27 : BitVec 32 := 0#32
  let c0_i32_28 : BitVec 32 := 0#32
  ![v10.toNat, 0, 0]
def k0_off3 (i : grid0.Coords) : Fin 2 → Nat :=
  let c0_i32_29 : BitVec 32 := 0#32
  let arg0 : BitVec 32 := BitVec.ofNat 32 (i 0).val
  let c2_i32_24 : BitVec 32 := 2#32
  let v49 : BitVec 32 := Scalar.subi arg0 c2_i32_24
  let c512_i32_25 : BitVec 32 := 512#32
  let v50 : BitVec 32 := Scalar.muli v49 c512_i32_25
  ![0, v50.toNat]
def k0_off4 (i : grid0.Coords) : Fin 1 → Nat :=
  let arg0 : BitVec 32 := BitVec.ofNat 32 (i 0).val
  let c2_i32_3 : BitVec 32 := 2#32
  let v10 : BitVec 32 := Scalar.remsi arg0 c2_i32_3
  ![v10.toNat]
def k0_off5 (i : grid0.Coords) : Fin 3 → Nat :=
  let arg0 : BitVec 32 := BitVec.ofNat 32 (i 0).val
  let c2_i32_3 : BitVec 32 := 2#32
  let v10 : BitVec 32 := Scalar.remsi arg0 c2_i32_3
  let v22 : Index := Scalar.indexCast v10
  let c0_10 : Index := 0#32
  let c0_11 : Index := 0#32
  ![v22.toNat, 0, 0]
def k0_off6 (i : grid0.Coords) : Fin 1 → Nat :=
  let arg0 : BitVec 32 := BitVec.ofNat 32 (i 0).val
  let c2_i32_3 : BitVec 32 := 2#32
  let v10 : BitVec 32 := Scalar.remsi arg0 c2_i32_3
  ![v10.toNat]
def k0_off7 (i : grid0.Coords) : Fin 2 → Nat :=
  let c0_i32_12 : BitVec 32 := 0#32
  let arg0 : BitVec 32 := BitVec.ofNat 32 (i 0).val
  let c512_i32 : BitVec 32 := 512#32
  let v26 : BitVec 32 := Scalar.muli arg0 c512_i32
  ![0, v26.toNat]
def k0_off8 (i : grid0.Coords) : Fin 3 → Nat :=
  let arg0 : BitVec 32 := BitVec.ofNat 32 (i 0).val
  let c2_i32_3 : BitVec 32 := 2#32
  let v10 : BitVec 32 := Scalar.remsi arg0 c2_i32_3
  let c0_i32_13 : BitVec 32 := 0#32
  let c0_i32_14 : BitVec 32 := 0#32
  ![v10.toNat, 0, 0]
def k0_off9 (i : grid0.Coords) : Fin 1 → Nat :=
  let arg0 : BitVec 32 := BitVec.ofNat 32 (i 0).val
  ![arg0.toNat]
def k0_dev2 (d0 : Dev nD) : Nat :=
  let c0_i32_17 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_16 : BitVec 32 := 16#32
  let v33 : BitVec 32 := Scalar.muli v9 c16_i32_16
  let v34 : BitVec 32 := Scalar.addi c0_i32_17 v33
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_18 : BitVec 32 := 4#32
  let v35 : BitVec 32 := Scalar.muli v5 c4_i32_18
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v37 : BitVec 32 := Scalar.muli v8 c1_i32_19
  let v38 : BitVec 32 := Scalar.addi v36 v37
  v38.toNat
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def k1_cond1 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v29 : BitVec 1 := Scalar.cmpi .eq v2 c0_i32
  let v30 : BitVec 32 := Scalar.extui v29
  let c0_i32_7 : BitVec 32 := 0#32
  let v31 : BitVec 1 := Scalar.cmpi .ne v30 c0_i32_7
  v31

def k1_cond2 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32 : BitVec 32 := 1#32
  let v32 : BitVec 1 := Scalar.cmpi .eq v2 c1_i32
  let v33 : BitVec 32 := Scalar.extui v32
  let c0_i32_8 : BitVec 32 := 0#32
  let v34 : BitVec 1 := Scalar.cmpi .ne v33 c0_i32_8
  v34

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x32768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S1024x2048 : Shape := ⟨2, ![1024, 2048]⟩
abbrev S2048x32768 : Shape := ⟨2, ![2048, 32768]⟩
abbrev S1024x32768 : Shape := ⟨2, ![1024, 32768]⟩
abbrev S_ : Shape := ⟨0, ![]⟩
abbrev S1024 : Shape := ⟨1, ![1024]⟩
abbrev S1024x1 : Shape := ⟨2, ![1024, 1]⟩

abbrev nBuf : Space → Nat
  | .hbm => 14
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x32768, .f32⟩
  | .hbm, ⟨2, _⟩ => ⟨S1024x32768, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S1024x32768, .f32⟩
  | .hbm, ⟨7, _⟩ => ⟨S1024x32768, .f32⟩
  | .hbm, ⟨8, _⟩ => ⟨S1024x32768, .f32⟩
  | .hbm, ⟨9, _⟩ => ⟨S_, .f32⟩
  | .hbm, ⟨10, _⟩ => ⟨S1024, .f32⟩
  | .hbm, ⟨11, _⟩ => ⟨S1024x1, .f32⟩
  | .hbm, ⟨12, _⟩ => ⟨S1024x32768, .f32⟩
  | .hbm, ⟨13, _⟩ => ⟨S1024x32768, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.ICommon.lean ====
/-
  The exchange kernel's places: which part of each buffer one grid point works on, what those parts hold, and the
  semaphores they are tracked by.

  A device's product x · W has 32 column chunks of 512 columns. Chunk j is computed in slot j % 2 of a two-slot scratch
  buffer, copied from there to columns 512·j … of the device's own result, and sent to the same columns of the partner
  device's second result.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.Kit
public import Idealize.ShloMosaic.Lib.Rounds
public import Idealize.ShloMosaic.Lib.Rounds.Family
public import Idealize.ShloMosaic.Lib.Pointwise.Index

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The partner device -/

/-- The device with the other x-coordinate and the same y and z: 16 places on, cyclically. -/
def pr (c : Dev nD) : Dev nD := ⟨(c.val + 16) % 32, Nat.mod_lt _ (by decide)⟩

/-- The partner's partner is the device itself. -/
theorem pr_pr (c : Dev nD) : pr (pr c) = c := by revert c; decide +kernel

/-- The device the entry signal names is the partner. -/
theorem dev1_eq (i : grid0.Coords) (d : Dev nD) (h : k0_cond1 i = 1#1) : (⟨k0_dev1 d, k0_dev1_lt i d h⟩ : Dev nD) = pr d := by
  have h' : ∀ d : Dev nD, k0_dev1 d = (pr d).val := by decide +kernel
  exact Fin.ext (h' d)

/-- The device the remote copy names is the partner. -/
theorem dev2_eq (d : Dev nD) : (⟨k0_dev2 d, k0_dev2_lt d⟩ : Dev nD) = pr d := by
  have h' : ∀ d : Dev nD, k0_dev2 d = (pr d).val := by decide +kernel
  exact Fin.ext (h' d)

/-! ## The parts of the buffers -/

/-- Columns 512·j … 512·j + 511 lie inside the 16384 columns. -/
theorem col_inb (j : Fin 32) : ∀ a, (![0, 512 * j.val] : Fin 2 → ℕ) a + S1024x512.size a ≤ S1024x16384.size a := by
  revert j; decide +kernel

/-- Slot s is one of the two. -/
theorem slot_inb (s : Fin 2) : ∀ a, (![s.val, 0, 0] : Fin 3 → ℕ) a + S1x1024x512.size a ≤ S2x1024x512.size a := by
  revert s; decide +kernel

/-- Chunk j of the device's own result. -/
abbrev llV (j : Fin 32) : Memref sig .tc .hbm S1024x512 .f32 :=
  (Memref.whole main_v1_0).slice (Rect.unit (s := S1024x16384) ![0, 512 * j.val] S1024x512.size (col_inb j)) (fun _ => rfl)

/-- Chunk j of the result the partner fills. -/
abbrev lrV (j : Fin 32) : Memref sig .tc .hbm S1024x512 .f32 :=
  (Memref.whole main_v1_1).slice (Rect.unit (s := S1024x16384) ![0, 512 * j.val] S1024x512.size (col_inb j)) (fun _ => rfl)

/-- Slot s of the scratch buffer, with its unit axis. -/
abbrev slotR (s : Fin 2) : Rect S2x1024x512 := Rect.unit (s := S2x1024x512) ![s.val, 0, 0] S1x1024x512.size (slot_inb s)

/-- Slot s of the scratch buffer, as a 1024 by 512 block. -/
abbrev slV (s : Fin 2) : Memref sig .tc .vmem S1024x512 .f32 :=
  ((Memref.whole cc0_scratch0).slice (slotR s) (fun _ => rfl)).squeeze S1024x512 squeezes_S1x1024x512_S1024x512

/-- The slot chunk j is computed in. -/
abbrev sl (j : Fin 32) : Fin 2 := ⟨j.val % 2, Nat.mod_lt _ (by decide)⟩

/-! ## The semaphores -/

abbrev barS : Sem sig := sig.barrier 0 rfl
abbrev slotS (s : Fin 2) : DmaSem sig := ⟨3 + s.val, by show 3 + s.val < 75; omega⟩
abbrev sendS (j : Fin 32) : DmaSem sig := ⟨5 + j.val, by show 5 + j.val < 75; omega⟩
abbrev recvS (j : Fin 32) : DmaSem sig := ⟨37 + j.val, by show 37 + j.val < 75; omega⟩

abbrev barCell (c : Dev nD) : GSem nD τ sig := ((c : Thread nD τ), .reg barS)
abbrev slotCell (c : Dev nD) (s : Fin 2) : GSem nD τ sig := ((c : Thread nD τ), .dma (slotS s))
abbrev sendCell (c : Dev nD) (j : Fin 32) : GSem nD τ sig := ((c : Thread nD τ), .dma (sendS j))
abbrev recvCell (c : Dev nD) (j : Fin 32) : GSem nD τ sig := ((c : Thread nD τ), .dma (recvS j))

/-- The semaphore printed for slot s is the one named so here. -/
theorem slotS_of (o : Fin 1 → ℕ) (s : Fin 2) (e : o = ![s.val]) (h : ∀ a, o a + S1.size a ≤ S2.size a) :
    ((cc0_scratch1.slice (Rect.unit (s := S2) o S1.size h)).squeeze S_ squeezes_S1_S_).sem = slotS s := by
  subst e; revert s; decide +kernel

/-- The semaphore printed for the departure of chunk j is the one named so here. -/
theorem sendS_of (o : Fin 1 → ℕ) (j : Fin 32) (e : o = ![j.val]) (h : ∀ a, o a + S1.size a ≤ S32.size a) :
    ((cc0_scratch2.slice (Rect.unit (s := S32) o S1.size h)).squeeze S_ squeezes_S1_S_).sem = sendS j := by
  subst e; revert j; decide +kernel

/-- The semaphore printed for the arrival of chunk j is the one named so here. -/
theorem recvS_of (o : Fin 1 → ℕ) (j : Fin 32) (e : o = ![j.val]) (h : ∀ a, o a + S1.size a ≤ S32.size a) :
    ((cc0_scratch3.slice (Rect.unit (s := S32) o S1.size h)).squeeze S_ squeezes_S1_S_).sem = recvS j := by
  subst e; revert j; decide +kernel

/-- The printed slice of the own result is chunk j. -/
theorem llV_of (o : Fin 2 → ℕ) (j : Fin 32) (e : o = ![0, 512 * j.val]) (h : ∀ a, o a + S1024x512.size a ≤ S1024x16384.size a) :
    (Memref.whole main_v1_0).slice (Rect.unit (s := S1024x16384) o S1024x512.size h) (fun _ => rfl) = llV j := by
  subst e; rfl

/-- The printed slice of the other result is chunk j. -/
theorem lrV_of (o : Fin 2 → ℕ) (j : Fin 32) (e : o = ![0, 512 * j.val]) (h : ∀ a, o a + S1024x512.size a ≤ S1024x16384.size a) :
    (Memref.whole main_v1_1).slice (Rect.unit (s := S1024x16384) o S1024x512.size h) (fun _ => rfl) = lrV j := by
  subst e; rfl

/-- The printed slice of the scratch buffer is slot s. -/
theorem slV_of (o : Fin 3 → ℕ) (s : Fin 2) (e : o = ![s.val, 0, 0]) (h : ∀ a, o a + S1x1024x512.size a ≤ S2x1024x512.size a) :
    ((Memref.whole cc0_scratch0).slice (Rect.unit (s := S2x1024x512) o S1x1024x512.size h) (fun _ => rfl)).squeeze S1024x512 squeezes_S1x1024x512_S1024x512
      = slV s := by
  subst e; rfl

/-- What one chunk's transfer counts. -/
abbrev N : ℕ := (slV 0).view.dmaCredit
theorem N_pos : 0 < N := View.dmaCredit_pos _ (by decide)
theorem credit_sl (s : Fin 2) : (slV s).view.dmaCredit = N := rfl
theorem credit_ll (j : Fin 32) : (llV j).view.dmaCredit = N := rfl
theorem credit_lr (j : Fin 32) : (lrV j).view.dmaCredit = N := rfl

/-! ## Where the parts lie -/

theorem llV_emb (j : Fin 32) (x : S1024x512.Idx) :
    (llV j).view.emb x = (ix2 ⟨(x 0).val, (x 0).isLt⟩ ⟨512 * j.val + (x 1).val, by have h1 : (x 1).val < 512 := (x 1).isLt; omega⟩ : S1024x16384.Idx) := by
  funext a; refine Fin.ext ?_
  fin_cases a
  · show 0 + 1 * (x 0).val = (x 0).val; omega
  · show 512 * j.val + 1 * (x 1).val = 512 * j.val + (x 1).val; omega

theorem lrV_emb (j : Fin 32) (x : S1024x512.Idx) :
    (lrV j).view.emb x = (ix2 ⟨(x 0).val, (x 0).isLt⟩ ⟨512 * j.val + (x 1).val, by have h1 : (x 1).val < 512 := (x 1).isLt; omega⟩ : S1024x16384.Idx) := by
  funext a; refine Fin.ext ?_
  fin_cases a
  · show 0 + 1 * (x 0).val = (x 0).val; omega
  · show 512 * j.val + 1 * (x 1).val = 512 * j.val + (x 1).val; omega

/-- An index of the 1024 by 512 block, with the unit axis put in front. -/
abbrev up (x : S1024x512.Idx) : S1x1024x512.Idx := ix3 0 ⟨(x 0).val, (x 0).isLt⟩ ⟨(x 1).val, (x 1).isLt⟩

theorem reshape_up (x : S1024x512.Idx) (h : S1024x512.numel = S1x1024x512.numel) : Shape.reshapeEquiv h x = up x := by
  refine (Shape.reshapeEquiv_cons_one (d := S1024x512.size) h x).trans ?_
  funext a; fin_cases a <;> rfl

theorem slV_emb (s : Fin 2) (x : S1024x512.Idx) :
    (slV s).view.emb x = (ix3 s ⟨(x 0).val, (x 0).isLt⟩ ⟨(x 1).val, (x 1).isLt⟩ : S2x1024x512.Idx) := by
  show (slotR s).emb (Shape.reshapeEquiv _ x) = _
  rw [reshape_up]
  funext a; refine Fin.ext ?_
  fin_cases a
  · show s.val + 1 * 0 = s.val; omega
  · show 0 + 1 * (x 0).val = (x 0).val; omega
  · show 0 + 1 * (x 1).val = (x 1).val; omega

theorem llV_set (j : Fin 32) : (llV j).view.set = (Rect.unit (s := S1024x16384) ![0, 512 * j.val] S1024x512.size (col_inb j)).set :=
  View.set_slice_whole main_v1_0 _

theorem mem_llV (j : Fin 32) (i : S1024x16384.Idx) : i ∈ (llV j).view.set ↔ (i 1).val / 512 = j.val := by
  have h1 : (i 1).val < 16384 := (i 1).isLt
  have h0 : (i 0).val < 1024 := (i 0).isLt
  rw [llV_set, Rect.mem_set_unit]
  refine Fin.forall_fin_two.trans ?_
  show (0 ≤ (i 0).val ∧ (i 0).val < 0 + 1024) ∧ (512 * j.val ≤ (i 1).val ∧ (i 1).val < 512 * j.val + 512) ↔ _
  omega

theorem lrV_set (j : Fin 32) : (lrV j).view.set = (Rect.unit (s := S1024x16384) ![0, 512 * j.val] S1024x512.size (col_inb j)).set :=
  View.set_slice_whole main_v1_1 _

theorem mem_lrV (j : Fin 32) (i : S1024x16384.Idx) : i ∈ (lrV j).view.set ↔ (i 1).val / 512 = j.val := by
  have h1 : (i 1).val < 16384 := (i 1).isLt
  have h0 : (i 0).val < 1024 := (i 0).isLt
  rw [lrV_set, Rect.mem_set_unit]
  refine Fin.forall_fin_two.trans ?_
  show (0 ≤ (i 0).val ∧ (i 0).val < 0 + 1024) ∧ (512 * j.val ≤ (i 1).val ∧ (i 1).val < 512 * j.val + 512) ↔ _
  omega

theorem slV_set (s : Fin 2) : (slV s).view.set = (slotR s).set :=
  (View.set_reshape (v := (View.whole cc0_scratch0).slice (slotR s)) squeezes_S1x1024x512_S1024x512.numel_eq).trans (View.set_slice_whole cc0_scratch0 _)

theorem slV_set_access (s : Fin 2) : (slV s).view.set = ((Memref.whole cc0_scratch0).access (slotR s)).set :=
  View.set_reshape (v := (View.whole cc0_scratch0).slice (slotR s)) squeezes_S1x1024x512_S1024x512.numel_eq

theorem mem_slV (s : Fin 2) (i : S2x1024x512.Idx) : i ∈ (slV s).view.set ↔ (i 0).val = s.val := by
  have h0 : (i 0).val < 2 := (i 0).isLt
  have h1 : (i 1).val < 1024 := (i 1).isLt
  have h2 : (i 2).val < 512 := (i 2).isLt
  rw [slV_set, Rect.mem_set_unit]
  constructor
  · intro h
    have h0' : s.val ≤ (i 0).val ∧ (i 0).val < s.val + 1 := h 0
    omega
  · intro h a
    fin_cases a
    · show s.val ≤ (i 0).val ∧ (i 0).val < s.val + 1; omega
    · show 0 ≤ (i 1).val ∧ (i 1).val < 0 + 1024; omega
    · show 0 ≤ (i 2).val ∧ (i 2).val < 0 + 512; omega

/-! ## What the parts hold -/

variable (m : (ℓ : Loc nD τ sig) → Buf (Elt F) ℓ)

/-- The device's left operand. -/
abbrev xOf (c : Dev nD) : Vec F S1024x2048 .f32 := m ((c : Thread nD τ).loc main_arg0)
/-- Column block j of the device's right operand. -/
def wBlk (c : Dev nD) (j : Fin 32) : Vec F S2048x512 .f32 := fun x =>
  m ((c : Thread nD τ).loc main_arg1) (ix2 ⟨(x 0).val, (x 0).isLt⟩ ⟨512 * j.val + (x 1).val, by have h1 : (x 1).val < 512 := (x 1).isLt; omega⟩ : S2048x16384.Idx)
/-- Chunk j of the device's product. -/
def prod (c : Dev nD) (j : Fin 32) : Vec F S1x1024x512 .f32 := k0_pay1 (xOf m c) (wBlk m c j)

/-- The whole product, chunk by chunk. -/
def full (c : Dev nD) : S1024x16384.Idx → Elt F .f32 := fun i =>
  prod m c ⟨(i 1).val / 512, by have h1 : (i 1).val < 16384 := (i 1).isLt; omega⟩
    (ix3 0 ⟨(i 0).val, (i 0).isLt⟩ ⟨(i 1).val % 512, Nat.mod_lt _ (by decide)⟩)

/-- The scratch buffer with chunk j in both slots (only the slot of chunk j is ever read off it). -/
def slotC (c : Dev nD) (j : Fin 32) : S2x1024x512.Idx → Elt F .f32 := fun i =>
  prod m c j (ix3 0 ⟨(i 1).val, (i 1).isLt⟩ ⟨(i 2).val, (i 2).isLt⟩)

theorem read_slot (c : Dev nD) (j : Fin 32) (s : Fin 2) (x : S1024x512.Idx) :
    (slV s).view.read (Elt F) (slotC m c j) x = prod m c j (up x) := by
  show slotC m c j ((slV s).view.emb x) = _
  rw [slV_emb]; rfl

/-- A chunk's copy leaves the own result at the product there. -/
theorem write_ll (c : Dev nD) (j : Fin 32) (s : Fin 2) (fd : S1024x16384.Idx → Elt F .f32) (i : S1024x16384.Idx) (hi : i ∈ (llV j).view.set) :
    (llV j).view.write (Elt F) fd ((slV s).view.read (Elt F) (slotC m c j)) Finset.univ i = full m c i := by
  obtain ⟨x, -, rfl⟩ := Finset.mem_map.mp hi
  rw [View.write_emb_of_mem (v := (llV j).view) _ _ (Finset.mem_univ x)]
  refine (read_slot m c j s x).trans ?_
  have h1 : (x 1).val < 512 := (x 1).isLt
  rw [llV_emb]
  unfold full
  congr 1
  · congr 1; refine Fin.ext ?_; show j.val = (512 * j.val + (x 1).val) / 512; omega
  · unfold up; congr 1; refine Fin.ext ?_; show (x 1).val = (512 * j.val + (x 1).val) % 512; omega

/-- A chunk's copy leaves the receiving result at the sender's product there. -/
theorem write_lr (c : Dev nD) (j : Fin 32) (s : Fin 2) (fd : S1024x16384.Idx → Elt F .f32) (i : S1024x16384.Idx) (hi : i ∈ (lrV j).view.set) :
    (lrV j).view.write (Elt F) fd ((slV s).view.read (Elt F) (slotC m c j)) Finset.univ i = full m c i := by
  obtain ⟨x, -, rfl⟩ := Finset.mem_map.mp hi
  rw [View.write_emb_of_mem (v := (lrV j).view) _ _ (Finset.mem_univ x)]
  refine (read_slot m c j s x).trans ?_
  have h1 : (x 1).val < 512 := (x 1).isLt
  rw [lrV_emb]
  unfold full
  congr 1
  · congr 1; refine Fin.ext ?_; show j.val = (512 * j.val + (x 1).val) / 512; omega
  · unfold up; congr 1; refine Fin.ext ?_; show (x 1).val = (512 * j.val + (x 1).val) % 512; omega

/-- Storing a chunk in its slot leaves the slot at the chunk. -/
theorem write_slot (c : Dev nD) (j : Fin 32) (s : Fin 2) (f : S2x1024x512.Idx → Elt F .f32) (i : S2x1024x512.Idx) (hi : i ∈ (slV s).view.set) :
    ((Memref.whole cc0_scratch0).access (slotR s)).write (Elt F) f (prod m c j) Finset.univ i = slotC m c j i := by
  rw [slV_set_access] at hi
  obtain ⟨x, -, rfl⟩ := Finset.mem_map.mp hi
  rw [View.write_emb_of_mem (v := (Memref.whole cc0_scratch0).access (slotR s)) _ _ (Finset.mem_univ x)]
  show prod m c j x = prod m c j _
  congr 1
  funext a; refine Fin.ext ?_
  fin_cases a
  · have h0 : (x 0).val < 1 := (x 0).isLt
    show (x 0).val = 0; omega
  · show (x 1).val = 0 + 1 * (x 1).val; omega
  · show (x 2).val = 0 + 1 * (x 2).val; omega

end Cert.KernelIdeal.Exchange

end
-- ==== Proof.ISchedule.lean ====
/-
  The exchange protocol: which transfer or signal pays which semaphore, what each payment hands over, and the levels by
  which every wait is met.
-/
module

public import proofs.«01_k».proof.Proof.ICommon

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The staging loop's own protocol, and beside it the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## Holding parts of buffers -/

/-- Device c holds chunk j of its own result at f. -/
abbrev llPts (c : Dev nD) (j : Fin 32) (f : S1024x16384.Idx → Elt F .f32) : sProp 𝕄 :=
  (llV j).view.loc (c : Thread nD τ) ↦[(llV j).view.set]{fullShare} f
/-- Chunk j of device c's other result, held at f. -/
abbrev lrPts (c : Dev nD) (j : Fin 32) (f : S1024x16384.Idx → Elt F .f32) : sProp 𝕄 :=
  (lrV j).view.loc (c : Thread nD τ) ↦[(lrV j).view.set]{fullShare} f
/-- Slot s of device c's scratch buffer, held at f with share q. -/
abbrev slPts (c : Dev nD) (s : Fin 2) (q : PosShare TreeShare) (f : S2x1024x512.Idx → Elt F .f32) : sProp 𝕄 :=
  (slV s).view.loc (c : Thread nD τ) ↦[(slV s).view.set]{q} f

/-- The contents of the two results at the start. -/
abbrev ll0 (c : Dev nD) : S1024x16384.Idx → Elt F .f32 := m ((c : Thread nD τ).loc main_v1_0)
abbrev lr0 (c : Dev nD) : S1024x16384.Idx → Elt F .f32 := m ((c : Thread nD τ).loc main_v1_1)

/-! ## The payloads -/

/-- The chunk computed in slot s in its round r. -/
abbrev chunkOf (s : Fin 2) (r : ℕ) : Fin 32 := ⟨(2 * r + s.val) % 32, Nat.mod_lt _ (by decide)⟩

theorem chunkOf_sl (j : Fin 32) : chunkOf (sl j) (j.val / 2) = j := by
  refine Fin.ext ?_
  show (2 * (j.val / 2) + j.val % 2) % 32 = j.val
  omega

/-- The partner's signal hands over the partner's receiving result, chunk by chunk, and that its arrivals can start. -/
def barPay (c : Dev nD) : sProp 𝕄 :=
  bigSep Finset.univ fun j : Fin 32 => iprop(lrPts (pr c) j (lr0 m (pr c)) ∗ reached ER (recvCell (pr c) j) 0)
/-- The departure of chunk j hands back half of its slot. -/
def sendPay (c : Dev nD) (j : Fin 32) : sProp 𝕄 := slPts c (sl j) fullShare.right (slotC m c j)
/-- The arrival of chunk j hands over the chunk at the partner's product. -/
def recvPay (c : Dev nD) (j : Fin 32) : sProp 𝕄 := lrPts c j (full m (pr c))
/-- The local copy of chunk j hands back the own result's chunk at the product, and the other half of its slot. -/
def slotPay (c : Dev nD) (s : Fin 2) (j : Fin 32) : sProp 𝕄 :=
  iprop(llPts c j (full m c) ∗ slPts c s fullShare.left (slotC m c j))

/-- The payload of a cell's round. -/
def pay (c : Dev nD) (sm : SemLoc sig) (r : ℕ) : sProp 𝕄 :=
  match sm with
  | .reg _ => barPay m c
  | .dma q =>
    if q.val < 3 then iprop(emp)
    else if q.val < 5 then slotPay m c ⟨(q.val - 3) % 2, Nat.mod_lt _ (by decide)⟩ (chunkOf ⟨(q.val - 3) % 2, Nat.mod_lt _ (by decide)⟩ r)
    else if q.val < 37 then sendPay m c ⟨(q.val - 5) % 32, Nat.mod_lt _ (by decide)⟩
    else if q.val < 69 then recvPay m c ⟨(q.val - 37) % 32, Nat.mod_lt _ (by decide)⟩
    else iprop(emp)

/-- How many rounds a semaphore goes through. -/
def rounds (sm : SemLoc sig) : ℕ :=
  match sm with
  | .reg _ => 1
  | .dma q => if q.val < 3 then 0 else if q.val < 5 then 16 else if q.val < 69 then 1 else 0

/-- The schedule: one payment per round, of one unit on the barrier and of a chunk's size on the rest. -/
def exRd : Rounds.Schedule (GSem nD τ sig) Unit 𝕄 where
  duties g r := if g.1.2 = .tc ∧ r < rounds g.2 then {()} else ∅
  unitless _ := False
  amount g _ _ := match g.2 with | .reg _ => 1 | .dma _ => N
  payload g r _ := pay m g.1.1 g.2 r
  amount_pos g _ _ _ := by
    rcases g with ⟨_, sm⟩
    cases sm
    · exact Nat.one_pos
    · exact N_pos

instance exRd_payload_storable (g : GSem nD τ sig) (r : ℕ) (d : Unit) :
    BI.Storable (upEmb : UEmb _ 𝕄) ((exRd (F := F) m).payload g r d) := by
  show BI.Storable upEmb (pay m g.1.1 g.2 r)
  rcases g with ⟨_, sm⟩
  unfold pay barPay sendPay recvPay slotPay
  cases sm
  · dsimp only; infer_instance
  · dsimp only
    (repeat' split) <;> infer_instance

/-! ## The schedule, cell by cell -/

theorem rounds_bar : rounds (.reg barS : SemLoc sig) = 1 := rfl
theorem rounds_slot (s : Fin 2) : rounds (.dma (slotS s) : SemLoc sig) = 16 := by revert s; decide
theorem rounds_send (j : Fin 32) : rounds (.dma (sendS j) : SemLoc sig) = 1 := by revert j; decide
theorem rounds_recv (j : Fin 32) : rounds (.dma (recvS j) : SemLoc sig) = 1 := by revert j; decide

theorem pay_slot (c : Dev nD) (j : Fin 32) : pay m c (.dma (slotS (sl j))) (j.val / 2) = slotPay m c (sl j) j := by
  have e : (⟨((slotS (sl j)).val - 3) % 2, Nat.mod_lt _ (by decide)⟩ : Fin 2) = sl j := by
    refine Fin.ext ?_; show (3 + j.val % 2 - 3) % 2 = j.val % 2; omega
  have h : ¬ (slotS (sl j)).val < 3 := by show ¬ 3 + j.val % 2 < 3; omega
  have h' : (slotS (sl j)).val < 5 := by show 3 + j.val % 2 < 5; omega
  unfold pay; dsimp only; rw [if_neg h, if_pos h', e, chunkOf_sl]
theorem pay_send (c : Dev nD) (j : Fin 32) (r : ℕ) : pay m c (.dma (sendS j)) r = sendPay m c j := by
  have e : (⟨((sendS j).val - 5) % 32, Nat.mod_lt _ (by decide)⟩ : Fin 32) = j := by
    refine Fin.ext ?_; show (5 + j.val - 5) % 32 = j.val; omega
  have h : ¬ (sendS j).val < 3 := by show ¬ 5 + j.val < 3; omega
  have h' : ¬ (sendS j).val < 5 := by show ¬ 5 + j.val < 5; omega
  have h'' : (sendS j).val < 37 := by show 5 + j.val < 37; omega
  unfold pay; dsimp only; rw [if_neg h, if_neg h', if_pos h'', e]
theorem pay_recv (c : Dev nD) (j : Fin 32) (r : ℕ) : pay m c (.dma (recvS j)) r = recvPay m c j := by
  have e : (⟨((recvS j).val - 37) % 32, Nat.mod_lt _ (by decide)⟩ : Fin 32) = j := by
    refine Fin.ext ?_; show (37 + j.val - 37) % 32 = j.val; omega
  have h : ¬ (recvS j).val < 3 := by show ¬ 37 + j.val < 3; omega
  have h' : ¬ (recvS j).val < 5 := by show ¬ 37 + j.val < 5; omega
  have h'' : ¬ (recvS j).val < 37 := by show ¬ 37 + j.val < 37; omega
  have h3 : (recvS j).val < 69 := by show 37 + j.val < 69; omega
  unfold pay; dsimp only; rw [if_neg h, if_neg h', if_neg h'', if_pos h3, e]

/-- A device's cell has its duty in every round it goes through. -/
theorem duties_tc (c : Dev nD) (sm : SemLoc sig) (r : ℕ) (h : r < rounds sm) : (exRd (F := F) m).duties ((c : Thread nD τ), sm) r = {()} := by
  dsimp only [exRd]; exact if_pos ⟨rfl, h⟩
/-- And none after. -/
theorem duties_later (g : GSem nD τ sig) : ∀ r, rounds g.2 ≤ r → (exRd (F := F) m).duties g r = ∅ :=
  fun r hr => by dsimp only [exRd]; exact if_neg fun h => by omega

theorem mem_duties (c : Dev nD) (sm : SemLoc sig) (r : ℕ) (h : r < rounds sm) : () ∈ (exRd (F := F) m).duties ((c : Thread nD τ), sm) r := by
  rw [duties_tc m c sm r h]; exact Finset.mem_singleton_self _

theorem expect_dma (c : Dev nD) (q : DmaSem sig) (r : ℕ) (h : r < rounds (.dma q : SemLoc sig)) : (exRd (F := F) m).expect ((c : Thread nD τ), .dma q) r = N := by
  unfold Schedule.expect Schedule.amountOf; rw [duties_tc m c _ r h, Finset.sum_singleton]; rfl
theorem expect_bar (c : Dev nD) : (exRd (F := F) m).expect (barCell c) 0 = 1 := by
  unfold Schedule.expect Schedule.amountOf; rw [duties_tc m c (.reg barS) 0 Nat.one_pos, Finset.sum_singleton]; rfl

/-- What a wait for a whole round collects: the round's payload. -/
theorem rest_tc (c : Dev nD) (sm : SemLoc sig) (r : ℕ) (h : r < rounds sm) :
    bigSep ((exRd (F := F) m).duties ((c : Thread nD τ), sm) r \ ∅) (fun u => (exRd (F := F) m).payload ((c : Thread nD τ), sm) r u) = pay m c sm r := by
  rw [Finset.sdiff_empty, duties_tc m c sm r h, bigSep_singleton]; rfl

/-! ## What a device owes, and the levels -/

/-- The arrivals at the partner of the chunks from n on. -/
def owed (c : Dev nD) (n : ℕ) : CellTallies nD τ sig Unit :=
  ∑ j ∈ Finset.univ.filter (fun j : Fin 32 => n ≤ j.val), tallyAt (recvCell (pr c) j) () N

theorem owed_last (c : Dev nD) : owed c 32 = 0 := by
  unfold owed
  rw [Finset.filter_false_of_mem (fun j _ => by have := j.isLt; omega), Finset.sum_empty]

theorem owed_step (c : Dev nD) (j : Fin 32) : owed c j.val = owed c (j.val + 1) + tallyAt (recvCell (pr c) j) () N := by
  unfold owed
  rw [show (Finset.univ.filter fun k : Fin 32 => j.val ≤ k.val) = insert j (Finset.univ.filter fun k : Fin 32 => j.val + 1 ≤ k.val) by
    ext k; simp only [Finset.mem_filter, Finset.mem_univ, true_and, Finset.mem_insert, Fin.ext_iff]; omega]
  rw [Finset.sum_insert (by simp), add_comm]

/-- What a device owes at launch: the partner's barrier unit and all the arrivals there. -/
def O₀ (c : Dev nD) : CellTallies nD τ sig Unit := owed c 0 + tallyAt (barCell (pr c)) () 1

def L (g : GSem nD τ sig) : Finset Unit := if g.1.2 = .tc then {()} else ∅
/-- Barriers at 1, arrivals at 2, everything else at 0. -/
def lvS (sm : SemLoc sig) : ℕ :=
  match sm with
  | .reg _ => 1
  | .dma q => if 37 ≤ q.val ∧ q.val < 69 then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (j : Fin 32) (u : Unit) : lv (recvCell c j) u = 2 := by
  show lvS (.dma (recvS j)) = 2; revert j; decide
theorem lv_slot (s : Fin 2) : lvS (.dma (slotS s) : SemLoc sig) = 0 := by revert s; decide
theorem lv_send (j : Fin 32) : lvS (.dma (sendS j) : SemLoc sig) = 0 := by revert j; decide

/-- Only arrivals at the partner are owed once the barrier has been signalled. -/
theorem owed_pos (c : Dev nD) (n : ℕ) (g : GSem nD τ sig) (u : Unit) (h : 0 < owed c n g u) : ∃ j : Fin 32, g = recvCell (pr c) j := by
  unfold owed at h
  by_contra hne
  have h0 : ∀ j : Fin 32, tallyAt (recvCell (pr c) j) () N g u = 0 := fun j => by
    rw [tallyAt_apply]; exact if_neg fun e => hne ⟨j, e.1⟩
  rw [Finset.sum_apply, Finsupp.finset_sum_apply, Finset.sum_eq_zero fun j _ => h0 j] at h
  exact absurd h (Nat.lt_irrefl 0)

/-- A wait on a cell below the arrivals is met while arrivals are owed. -/
theorem mayWait_low (c : Dev nD) (sm : SemLoc sig) (n : ℕ) (h : lvS sm ≤ 1) :
    (levAts L lv : sProp 𝕄) ⊢ MayWait (c : Thread nD τ) sm () (owed c n) :=
  MayOwe.of_cut (L := L) (lev := lv) 1 (fun p hp => by rw [Finset.mem_singleton.mp hp, L_tc]; exact Finset.mem_singleton_self _)
    (fun g u hg => by
      obtain ⟨j, rfl⟩ := owed_pos c n g u hg
      rw [L_tc]; exact Finset.mem_singleton_self _)
    (fun p hp => by rw [Finset.mem_singleton.mp hp]; exact h)
    (fun g u hg => by
      obtain ⟨j, rfl⟩ := owed_pos c n g u hg
      rw [lv_recv]; decide)

/-! ## The invariants, kept as one record for all devices -/

/-- The cells of one device that the protocol uses, besides its barrier. -/
def scCell (i : Dev nD × (Fin 2 ⊕ Fin 32 ⊕ Fin 32)) : GSem nD τ sig :=
  match i.2 with
  | .inl s => slotCell i.1 s
  | .inr (.inl j) => sendCell i.1 j
  | .inr (.inr j) => recvCell i.1 j

/-- Every cell's invariant, at the names K. -/
def records (K : GSem nD τ sig → ℕ) : sProp 𝕄 :=
  iprop((bigSep Finset.univ fun c : Dev nD => cellInv ER (exRd m) (K (barCell c)) (barCell c))
    ∗ (bigSep Finset.univ fun i : Dev nD × (Fin 2 ⊕ Fin 32 ⊕ Fin 32) => cellInv ER (exRd m) (K (scCell i)) (scCell i)))

instance records_persistent (K : GSem nD τ sig → ℕ) : BI.Persistent (records m K) := by unfold records; infer_instance

theorem rec_bar (K : GSem nD τ sig → ℕ) (c : Dev nD) : records m K ⊢ cellInv ER (exRd m) (K (barCell c)) (barCell c) := by
  unfold records
  exact (BI.sep_and.trans and_elimL).trans (bigSep_elim (Φ := fun c : Dev nD => cellInv ER (exRd m) (K (barCell c)) (barCell c)) (Finset.mem_univ c))
theorem rec_sc (K : GSem nD τ sig → ℕ) (i : Dev nD × (Fin 2 ⊕ Fin 32 ⊕ Fin 32)) : records m K ⊢ cellInv ER (exRd m) (K (scCell i)) (scCell i) := by
  unfold records
  exact (BI.sep_and.trans and_elimR).trans (bigSep_elim (Φ := fun i : Dev nD × (Fin 2 ⊕ Fin 32 ⊕ Fin 32) => cellInv ER (exRd m) (K (scCell i)) (scCell i)) (Finset.mem_univ i))
theorem rec_slot (K : GSem nD τ sig → ℕ) (c : Dev nD) (s : Fin 2) : records m K ⊢ cellInv ER (exRd m) (K (slotCell c s)) (slotCell c s) := rec_sc m K (c, .inl s)
theorem rec_send (K : GSem nD τ sig → ℕ) (c : Dev nD) (j : Fin 32) : records m K ⊢ cellInv ER (exRd m) (K (sendCell c j)) (sendCell c j) := rec_sc m K (c, .inr (.inl j))
theorem rec_recv (K : GSem nD τ sig → ℕ) (c : Dev nD) (j : Fin 32) : records m K ⊢ cellInv ER (exRd m) (K (recvCell c j)) (recvCell c j) := rec_sc m K (c, .inr (.inr j))

/-- A cell past its last round gives its counter back at zero. -/
theorem close (κ : ℕ) (g : GSem nD τ sig) :
    iprop(cellInv ER (exRd m) κ g ∗ atPos ER g (rounds g.2) ∅ 0) ⊢ (|={Set.univ}=> semVal g 0 : sProp 𝕄) :=
  Rounds.cell_close ER (exRd m) (Set.mem_univ κ) id (duties_later m g)

end Cert.KernelIdeal.Exchange

end
-- ==== Proof.ISteps.lean ====
/-
  The single moves of the exchange: one wait, the retiring of a chunk's two outgoing copies, the issue of a chunk's two
  outgoing copies, and the wait for one arrival; and the state of each chunk between the moves.
-/
module

public import proofs.«01_k».proof.Proof.ISchedule

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## A family of assertions changed at one index -/

/-- Two families that agree off one index differ by their members there. -/
theorem family_step {I : Type} [Fintype I] [DecidableEq I] (j : I) {Φ Ψ : I → sProp 𝕄} (h : ∀ k, k ≠ j → Φ k = Ψ k) :
    bigSep Finset.univ Φ ⊢ iprop(Φ j ∗ (Ψ j -∗ bigSep Finset.univ Ψ)) := by
  rw [bigSep_univ_split j (Φ := Φ), bigSep_univ_split j (Φ := Ψ), bigSep_congr fun k hk => h k (Finset.ne_of_mem_erase hk)]
  show (iprop(Φ j ∗ bigSep (Finset.univ.erase j) Ψ) : sProp 𝕄) ⊢ iprop(Φ j ∗ (Ψ j -∗ (Ψ j ∗ bigSep (Finset.univ.erase j) Ψ)))
  iintro ⟨H, H'⟩
  isplitl [H]; · iexact H
  iintro H
  isplitl [H]; · iexact H
  iexact H'

/-! ## The states of a chunk -/

/-- What device c still owes, its waits so far not named. -/
abbrev owing (c : Dev nD) (O : CellTallies nD τ sig Unit) : sProp 𝕄 := iprop(∃ W, owes (c : Thread nD τ) O W)

/-- Chunk j not yet computed: its departure's position, the rights to pay for its copies, its part of the own result. -/
def fresh (c : Dev nD) (j : Fin 32) : sProp 𝕄 :=
  iprop(atPos ER (sendCell c j) 0 ∅ 0 ∗ reached ER (sendCell c j) 0 ∗ dutyTok ER (sendCell c j) 0 () ∗ dutyTok ER (recvCell (pr c) j) 0 ()
    ∗ dutyTok ER (slotCell c (sl j)) (j.val / 2) () ∗ llPts c j (ll0 m c))
/-- Chunk j's two copies under way. -/
def inFlight (c : Dev nD) (j : Fin 32) : sProp 𝕄 :=
  iprop(atPos ER (sendCell c j) 0 ∅ 0 ∗ cred (tallyAt (sendCell c j) () N)
    ∗ atPos ER (slotCell c (sl j)) (j.val / 2) ∅ 0 ∗ cred (tallyAt (slotCell c (sl j)) () N))
/-- Chunk j's two copies waited for: its part of the own result holds the product. -/
def landed (c : Dev nD) (j : Fin 32) : sProp 𝕄 :=
  iprop(atPos ER (sendCell c j) 1 ∅ 0 ∗ llPts c j (full m c))
/-- Slot s free for its r-th use. -/
def ready (c : Dev nD) (s : Fin 2) (r : ℕ) : sProp 𝕄 :=
  iprop(atPos ER (slotCell c s) r ∅ 0 ∗ reached ER (slotCell c s) r ∗ ∃ f, slPts c s fullShare f)
/-- The partner's chunk j, ready to be filled. -/
def target (c : Dev nD) (j : Fin 32) : sProp 𝕄 := iprop(lrPts (pr c) j (lr0 m (pr c)) ∗ reached ER (recvCell (pr c) j) 0)
/-- Chunk j's arrival still to be waited for. -/
def coming (c : Dev nD) (j : Fin 32) : sProp 𝕄 := iprop(atPos ER (recvCell c j) 0 ∅ 0 ∗ cred (tallyAt (recvCell c j) () N))
/-- Chunk j arrived. -/
def arrived (c : Dev nD) (j : Fin 32) : sProp 𝕄 := iprop(atPos ER (recvCell c j) 1 ∅ 0 ∗ lrPts c j (full m (pr c)))

/-! ## One wait -/

/-- A wait on a transfer's semaphore collects the round's payload. -/
theorem wait_one {α : Type} (c : Dev nD) (q : DmaSem sig) (κ R : ℕ) (hR : R < rounds (.dma q)) (O : CellTallies nD τ sig Unit)
    (hmay : (levAts L lv : sProp 𝕄) ⊢ MayWait (c : Thread nD τ) (.dma q) () O)
    {sp sp' : Space} {s s' : Shape} {e e' : EltTy} {sem : DmaSem sig} {src : Memref sig .tc sp' s' e'} {dst : Memref sig .tc sp s e}
    {hsrc : src.view.WordExact} {hdst : dst.view.WordExact} (hsem : sem = q) (hN : dst.view.dmaCredit = N)
    {k : PUnit → Prog (TpuEff nD τ sig (Elt F) Λ₀ .tc) α} {Q : α → sProp 𝕄} :
    iprop(cellInv ER (exRd m) κ ((c : Thread nD τ), .dma q) ∗ levAts L lv ∗ cred (tallyAt ((c : Thread nD τ), .dma q) () N)
        ∗ owing c O ∗ atPos ER ((c : Thread nD τ), .dma q) R ∅ 0)
      ⊢ iprop(((owing c O ∗ atPos ER ((c : Thread nD τ), .dma q) (R + 1) ∅ 0 ∗ reached ER ((c : Thread nD τ), .dma q) (R + 1) ∗ pay m c (.dma q) R)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hsem
  iintro ⟨#HI, #Hlev, Hc, ⟨%W, HO⟩, Hat⟩ Hk
  iapply (Rounds.wp_wait_rest_token 𝒱₀ ER (exRd m) (c : Thread nD τ) none (κ := κ)
      (wpE_waitDma2_eq (src := src) (dst := dst) (hsrc := hsrc) (hdst := hdst) 𝒱₀ (c : Thread nD τ) none Set.univ) (Set.mem_univ _) () (O := O) (W := W) (R := R) (m := 0) (T := ∅)
      ((Nat.zero_add _).trans (hN.trans (expect_dma m c sem R hR).symm))) $$ [Hc HO Hat]
  · isplitr; · iexact HI
    isplitl [Hc]; · rw [hN]; iexact Hc
    isplitl [HO]; · iexact HO
    isplitr; · iapply hmay; iexact Hlev
    iexact Hat
  iintro ⟨HO, Hat, #Hr, Hpay⟩
  ihave Hp := (Entails.of_eq (rest_tc m c (.dma sem) R hR)) $$ Hpay
  iapply Hk
  isplitl [HO]; · iexists _; iexact HO
  isplitl [Hat]; · iexact Hat
  isplitr; · iexact Hr
  iexact Hp

/-! ## Retiring a chunk -/

/-- Both halves of a slot are the slot. -/
theorem slot_halves (c : Dev nD) (s : Fin 2) (f : S2x1024x512.Idx → Elt F .f32) :
    (slPts c s fullShare f : sProp 𝕄) ⊣⊢ iprop(slPts c s fullShare.left f ∗ slPts c s fullShare.right f) :=
  pointsTo_share (PosShare.mem_left_op_right fullShare)

/-- Waiting for a chunk's two copies: the chunk has landed and its slot is free again. -/
theorem retire {α : Type} (K : GSem nD τ sig → ℕ) (c : Dev nD) (j : Fin 32) (n : ℕ)
    {sp₁ sp₁' sp₂ sp₂' : Space} {s₁ s₁' s₂ s₂' : Shape} {e₁ e₁' e₂ e₂' : EltTy} {sem₁ sem₂ : DmaSem sig}
    {a₁ : Memref sig .tc sp₁' s₁' e₁'} {b₁ : Memref sig .tc sp₁ s₁ e₁} {a₂ : Memref sig .tc sp₂' s₂' e₂'} {b₂ : Memref sig .tc sp₂ s₂ e₂}
    {ha₁ : a₁.view.WordExact} {hb₁ : b₁.view.WordExact} {ha₂ : a₂.view.WordExact} {hb₂ : b₂.view.WordExact}
    (h₁ : sem₁ = sendS j) (hN₁ : b₁.view.dmaCredit = N) (h₂ : sem₂ = slotS (sl j)) (hN₂ : b₂.view.dmaCredit = N)
    {k : PUnit → Prog (TpuEff nD τ sig (Elt F) Λ₀ .tc) α} {Q : α → sProp 𝕄} :
    iprop(records m K ∗ levAts L lv ∗ inFlight c j ∗ owing c (owed c n))
      ⊢ iprop(((landed m c j ∗ ready c (sl j) (j.val / 2 + 1) ∗ owing c (owed c n))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem₁ a₁ b₁ ha₁ hb₁) fun _ => .op (.waitDma2 sem₂ a₂ b₂ ha₂ hb₂) k) Q) := by
  unfold inFlight
  iintro ⟨#HR, #Hlev, ⟨HatS, HcS, HatT, HcT⟩, HO⟩ Hk
  iapply (wait_one m c (sendS j) (K (sendCell c j)) 0 (by rw [rounds_send]; exact Nat.one_pos) (owed c n)
    (mayWait_low c _ n (by rw [lv_send]; exact Nat.zero_le _)) h₁ hN₁) $$ [HcS HO HatS]
  · isplitr; · iapply (rec_send m K c j); iexact HR
    isplitr; · iexact Hlev
    isplitl [HcS]; · iexact HcS
    isplitl [HO]; · iexact HO
    iexact HatS
  iintro ⟨HO, HatS, -, Hp⟩
  ihave Hright := (Entails.of_eq (pay_send m c j 0)) $$ Hp
  iapply (wait_one m c (slotS (sl j)) (K (slotCell c (sl j))) (j.val / 2) (by rw [rounds_slot]; have := j.isLt; omega) (owed c n)
    (mayWait_low c _ n (by rw [lv_slot]; exact Nat.zero_le _)) h₂ hN₂) $$ [HcT HO HatT]
  · isplitr; · iapply (rec_slot m K c (sl j)); iexact HR
    isplitr; · iexact Hlev
    isplitl [HcT]; · iexact HcT
    isplitl [HO]; · iexact HO
    iexact HatT
  iintro ⟨HO, HatT, #HrT, Hp⟩
  ihave Hp := (Entails.of_eq (pay_slot m c j)) $$ Hp
  unfold slotPay sendPay
  icases Hp with ⟨Hll, Hleft⟩
  iapply Hk
  unfold landed ready
  isplitl [HatS Hll]
  · isplitl [HatS]; · iexact HatS
    iexact Hll
  isplitr [HO]
  · isplitl [HatT]; · iexact HatT
    isplitr; · iexact HrT
    iexists (slotC m c j)
    iapply (slot_halves c (sl j) (slotC m c j)).2
    isplitl [Hleft]; · iexact Hleft
    iexact Hright
  iexact HO

/-! ## Issuing a chunk -/

/-- Starting a chunk's two copies, out of its slot holding the chunk: the chunk is under way, and its arrival at the
    partner no longer owed. -/
theorem issue {α : Type} (K : GSem nD τ sig → ℕ) (c : Dev nD) (j : Fin 32)
    {d : Dev nD} {src₁ src₂ : Memref sig .tc .vmem S1024x512 .f32} {dst₁ dst₂ : Memref sig .tc .hbm S1024x512 .f32} {q₁ q₂ q₃ : DmaSem sig}
    {hs₁ : src₁.view.WordExact} {hd₁ : dst₁.view.WordExact} {ht₁ : DmaTarget.Typed (nD := nD) (τ := τ) (p := Proc.tc) .vmem (.dma q₁) (.here dst₁)}
    {hsc : dst₂.view.ref.isScScratch = false}
    {hs₂ : src₂.view.WordExact} {hd₂ : dst₂.view.WordExact} {ht₂ : DmaTarget.Typed (nD := nD) (τ := τ) (p := Proc.tc) .vmem (.dma q₃) (.remote (d : Thread nD τ) dst₂ (.dma q₂) hsc)}
    (es₁ : src₁ = slV (sl j)) (ed₁ : dst₁ = llV j) (eq₁ : q₁ = slotS (sl j))
    (es₂ : src₂ = slV (sl j)) (ed₂ : dst₂ = lrV j) (eq₂ : q₂ = sendS j) (eq₃ : q₃ = recvS j) (ed : d = pr c)
    {k : PUnit → Prog (TpuEff nD τ sig (Elt F) Λ₀ .tc) α} {Q : α → sProp 𝕄} :
    iprop(records m K ∗ fresh m c j ∗ target m c j ∗ atPos ER (slotCell c (sl j)) (j.val / 2) ∅ 0 ∗ reached ER (slotCell c (sl j)) (j.val / 2)
        ∗ slPts c (sl j) fullShare (slotC m c j) ∗ owing c (owed c j.val))
      ⊢ iprop(((inFlight c j ∗ owing c (owed c (j.val + 1)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src₁ (.here dst₁) (.dma q₁) hs₁ hd₁ ht₁) fun _ =>
                .op (.enqueueDma src₂ (.remote (d : Thread nD τ) dst₂ (.dma q₂) hsc) (.dma q₃) hs₂ hd₂ ht₂) k) Q) := by
  subst es₁; subst ed₁; subst eq₁; subst es₂; subst ed₂; subst eq₂; subst eq₃; subst ed
  unfold fresh target
  iintro ⟨#HR, ⟨HatS, #HrS, HtS, HtR, HtT, Hll⟩, ⟨Hlr, #HrR⟩, HatT, #HrT, Hs, ⟨%W, HO⟩⟩ Hk
  ihave Hs := (slot_halves c (sl j) (slotC m c j)).1 $$ Hs
  icases Hs with ⟨Hleft, Hright⟩
  iapply (Rounds.wp_copy_pointsTo 𝒱₀ ER (exRd m) (c : Thread nD τ) none (src := slV (sl j)) (dst := llV j) (sem := .dma (slotS (sl j))) (q := fullShare.left)
      (fs := slotC m c j) (fd := ll0 m c) (r := j.val / 2) (d := ()) (κ := K (slotCell c (sl j)))
      (mem_duties m c _ _ (by rw [rounds_slot]; have := j.isLt; omega)) () N rfl rfl
      (by
        show _ ⊢ pay m c (.dma (slotS (sl j))) (j.val / 2)
        rw [pay_slot, pointsTo_congr fun i hi => write_ll m c j (sl j) (ll0 m c) i hi]
        exact .rfl)) $$ [Hleft Hll HtT]
  · isplitr; · iapply (rec_slot m K c (sl j)); iexact HR
    isplitl [Hleft]; · iexact Hleft
    isplitl [Hll]; · iexact Hll
    isplitl [HtT]; · iexact HtT
    iexact HrT
  iintro HcT
  iapply (Rounds.wp_send_pointsTo 𝒱₀ ER (exRd m) (c : Thread nD τ) none (c' := (pr c : Thread nD τ)) (src := slV (sl j)) (dst := lrV j)
      (sS := .dma (sendS j)) (sem := .dma (recvS j)) (q := fullShare.right) (fs := slotC m c j) (κ₁ := K (sendCell c j)) (κ₂ := K (recvCell (pr c) j))
      (r₁ := 0) (r₂ := 0) (d₁ := ()) (d₂ := ()) (fd := lr0 m (pr c))
      (mem_duties m c _ _ (by rw [rounds_send]; exact Nat.one_pos)) (mem_duties m (pr c) _ _ (by rw [rounds_recv]; exact Nat.one_pos))
      () () N rfl rfl rfl (owed c (j.val + 1)) (owed_step c j) (W := W)
      (by show _ ⊢ pay m c (.dma (sendS j)) 0; rw [pay_send]; exact .rfl)
      (by
        show _ ⊢ pay m (pr c) (.dma (recvS j)) 0
        rw [pay_recv, pointsTo_congr fun i hi => write_lr m c j (sl j) (lr0 m (pr c)) i hi]
        unfold recvPay; rw [pr_pr])) $$ [Hright Hlr HO HtS HtR]
  · isplitr; · iapply (rec_send m K c j); iexact HR
    isplitr; · iapply (rec_recv m K (pr c) j); iexact HR
    isplitl [Hright]; · iexact Hright
    isplitl [Hlr]; · iexact Hlr
    isplitl [HO]; · iexact HO
    isplitl [HtS]; · iexact HtS
    isplitr; · iexact HrS
    isplitl [HtR]; · iexact HtR
    iexact HrR
  iintro ⟨HcS, HO⟩
  iapply Hk
  unfold inFlight
  isplitr [HO]
  · isplitl [HatS]; · iexact HatS
    isplitl [HcS]; · iexact HcS
    isplitl [HatT]; · iexact HatT
    iexact HcT
  iexists W; iexact HO

/-! ## Waiting for an arrival -/

/-- Of the arrivals, those before n waited for. -/
def arrivals (c : Dev nD) (n : ℕ) : sProp 𝕄 := bigSep Finset.univ fun j : Fin 32 => if j.val < n then arrived m c j else coming c j

/-- One more arrival waited for, everything else kept. -/
theorem arrive {α : Type} (K : GSem nD τ sig → ℕ) (c : Dev nD) (Z : sProp 𝕄) (j : Fin 32)
    {sp sp' : Space} {s s' : Shape} {e e' : EltTy} {sem : DmaSem sig} {src : Memref sig .tc sp' s' e'} {dst : Memref sig .tc sp s e}
    {hsrc : src.view.WordExact} {hdst : dst.view.WordExact} (hsem : sem = recvS j) (hN : dst.view.dmaCredit = N)
    {k : PUnit → Prog (TpuEff nD τ sig (Elt F) Λ₀ .tc) α} {Q : α → sProp 𝕄}
    (h : iprop(Z ∗ records m K ∗ levAts L lv ∗ owing c 0 ∗ arrivals m c (j.val + 1)) ⊢ wp frame (wpE (defs₀ (F := F)) 𝒱₀ (c : Thread nD τ) none) Set.univ (k ⟨⟩) Q) :
    iprop(Z ∗ records m K ∗ levAts L lv ∗ owing c 0 ∗ arrivals m c j.val)
      ⊢ wp frame (wpE (defs₀ (F := F)) 𝒱₀ (c : Thread nD τ) none) Set.univ (.op (.waitDma2 sem src dst hsrc hdst) k) Q := by
  have hstep : (arrivals m c j.val : sProp 𝕄) ⊢ iprop(coming c j ∗ (arrived m c j -∗ arrivals m c (j.val + 1))) := by
    unfold arrivals
    refine (family_step (I := Fin 32) j (Ψ := fun k : Fin 32 => if k.val < j.val + 1 then arrived m c k else coming c k) fun k hk => ?_).trans ?_
    · have hk' : k.val ≠ j.val := fun e => hk (Fin.ext e)
      by_cases h1 : k.val < j.val
      · rw [if_pos h1, if_pos (by omega)]
      · rw [if_neg h1, if_neg (by omega)]
    · rw [if_neg (Nat.lt_irrefl _), if_pos (Nat.lt_succ_self _)]
  refine (sep_mono_right (sep_mono_right (sep_mono_right (sep_mono_right hstep)))).trans ?_
  unfold coming
  iintro ⟨HZ, #HR, #Hlev, HO, ⟨Hat, Hc⟩, Hback⟩
  iapply (wait_one m c (recvS j) (K (recvCell c j)) 0 (by rw [rounds_recv]; exact Nat.one_pos) 0
    (by rw [MayWait_zero]; iintro -; iempintro) hsem hN) $$ [Hc HO Hat]
  · isplitr; · iapply (rec_recv m K c j); iexact HR
    isplitr; · iexact Hlev
    isplitl [Hc]; · iexact Hc
    isplitl [HO]; · iexact HO
    iexact Hat
  iintro ⟨HO, Hat, -, Hp⟩
  ihave Hp := (Entails.of_eq (pay_recv m c j 0)) $$ Hp
  iapply h
  isplitl [HZ]; · iexact HZ
  isplitr; · iexact HR
  isplitr; · iexact Hlev
  isplitl [HO]; · iexact HO
  iapply Hback
  unfold arrived recvPay
  isplitl [Hat]; · iexact Hat
  iexact Hp

end Cert.KernelIdeal.Exchange

end
-- ==== Proof.IStages.lean ====
/-
  One grid point of the exchange in stages: meeting the partner, freeing a slot, filling it, sending it, and, at the
  last point, waiting for everything still under way.
-/
module

public import proofs.«01_k».proof.Proof.ISteps
public import Idealize.ShloMosaic.Lib.VecWindow

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The state before a grid point -/

/-- The chunks: those before a landed, those from a to b under way, those from b on fresh. -/
def chunks (c : Dev nD) (a b : ℕ) : sProp 𝕄 :=
  bigSep Finset.univ fun j : Fin 32 => if b ≤ j.val then fresh m c j else if a ≤ j.val then inFlight c j else landed m c j
/-- The slots not used yet by the first n chunks. -/
def unused (c : Dev nD) (n : ℕ) : sProp 𝕄 :=
  bigSep Finset.univ fun s : Fin 2 => if n ≤ s.val then ready c s 0 else iprop(emp)
/-- The partner's chunks from n on. -/
def targets (c : Dev nD) (n : ℕ) : sProp 𝕄 :=
  bigSep Finset.univ fun j : Fin 32 => if n ≤ j.val then target m c j else iprop(emp)

/-- Before the first point. -/
def entry (K : GSem nD τ sig → ℕ) (c : Dev nD) : sProp 𝕄 :=
  iprop(records m K ∗ levAts L lv
    ∗ (atPos ER (barCell c) 0 ∅ 0 ∗ cred (tallyAt (barCell c) () 1) ∗ reached ER (barCell (pr c)) 0 ∗ dutyTok ER (barCell (pr c)) 0 () ∗ barPay m (pr c))
    ∗ chunks m c 0 0 ∗ unused c 0 ∗ arrivals m c 0 ∗ owing c (O₀ c))
/-- Between two points, n chunks issued and those before n − 2 landed. -/
def mid (K : GSem nD τ sig → ℕ) (c : Dev nD) (n : ℕ) : sProp 𝕄 :=
  iprop(records m K ∗ levAts L lv ∗ atPos ER (barCell c) 1 ∅ 0
    ∗ chunks m c (n - 2) n ∗ unused c n ∗ targets m c n ∗ arrivals m c 0 ∗ owing c (owed c n))
/-- Within a point: the chunk's slot is free. -/
def free (K : GSem nD τ sig → ℕ) (c : Dev nD) (j : Fin 32) : sProp 𝕄 :=
  iprop(records m K ∗ levAts L lv ∗ atPos ER (barCell c) 1 ∅ 0
    ∗ chunks m c (j.val + 1 - 2) j.val ∗ unused c (j.val + 1) ∗ targets m c j.val ∗ arrivals m c 0 ∗ ready c (sl j) (j.val / 2) ∗ owing c (owed c j.val))
/-- Within a point: the chunk's slot holds the chunk. -/
def filled (K : GSem nD τ sig → ℕ) (c : Dev nD) (j : Fin 32) : sProp 𝕄 :=
  iprop(records m K ∗ levAts L lv ∗ atPos ER (barCell c) 1 ∅ 0
    ∗ chunks m c (j.val + 1 - 2) j.val ∗ unused c (j.val + 1) ∗ targets m c j.val ∗ arrivals m c 0
    ∗ (atPos ER (slotCell c (sl j)) (j.val / 2) ∅ 0 ∗ reached ER (slotCell c (sl j)) (j.val / 2) ∗ slPts c (sl j) fullShare (slotC m c j)) ∗ owing c (owed c j.val))

/-! ## How the families move -/

theorem targets_zero (c : Dev nD) : (barPay m c : sProp 𝕄) = targets m c 0 := by
  unfold barPay targets target
  exact bigSep_congr fun j _ => (if_pos (Nat.zero_le _)).symm

theorem targets_step (c : Dev nD) (j : Fin 32) : (targets m c j.val : sProp 𝕄) ⊢ iprop(target m c j ∗ targets m c (j.val + 1)) := by
  unfold targets
  refine (family_step (I := Fin 32) j (Ψ := fun k : Fin 32 => if j.val + 1 ≤ k.val then target m c k else iprop(emp)) fun k hk => ?_).trans ?_
  · have hk' : k.val ≠ j.val := fun e => hk (Fin.ext e)
    by_cases h1 : j.val ≤ k.val
    · rw [if_pos h1, if_pos (by omega)]
    · rw [if_neg h1, if_neg (by omega)]
  · rw [if_pos (Nat.le_refl _), if_neg (by omega)]
    iintro ⟨H, Hb⟩
    isplitl [H]; · iexact H
    iapply Hb; iempintro

theorem unused_late (c : Dev nD) (n : ℕ) (h : 2 ≤ n) : (unused (F := F) c n : sProp 𝕄) = unused c (n + 1) := by
  unfold unused
  exact bigSep_congr fun s _ => by rw [if_neg (by omega), if_neg (by omega)]

theorem unused_step (c : Dev nD) (j : Fin 32) (h : j.val < 2) : (unused c j.val : sProp 𝕄) ⊢ iprop(ready c (sl j) (j.val / 2) ∗ unused c (j.val + 1)) := by
  unfold unused
  have hs : (sl j).val = j.val := by show j.val % 2 = j.val; omega
  refine (family_step (I := Fin 2) (sl j) (Ψ := fun s : Fin 2 => if j.val + 1 ≤ s.val then ready c s 0 else iprop(emp)) fun k hk => ?_).trans ?_
  · have hk' : k.val ≠ j.val := fun e => hk (Fin.ext (e.trans hs.symm))
    by_cases h1 : j.val ≤ k.val
    · rw [if_pos h1, if_pos (by omega)]
    · rw [if_neg h1, if_neg (by omega)]
  · rw [if_pos (by omega), if_neg (by omega), show j.val / 2 = 0 by omega]
    iintro ⟨H, Hb⟩
    isplitl [H]; · iexact H
    iapply Hb; iempintro

theorem unused_done (c : Dev nD) (n : ℕ) (h : 2 ≤ n) : (unused (F := F) c n : sProp 𝕄) ⊢ (iprop(emp) : sProp 𝕄) := by
  unfold unused
  rw [bigSep_congr (Ψ := fun _ => (iprop(emp) : sProp 𝕄)) fun s _ => if_neg (by omega)]
  iintro -
  iempintro

/-- A chunk under way lands. -/
theorem chunks_land (c : Dev nD) (j : Fin 32) (b : ℕ) (h : j.val < b) :
    (chunks m c j.val b : sProp 𝕄) ⊢ iprop(inFlight c j ∗ (landed m c j -∗ chunks m c (j.val + 1) b)) := by
  unfold chunks
  refine (family_step (I := Fin 32) j (Ψ := fun k : Fin 32 => if b ≤ k.val then fresh m c k else if j.val + 1 ≤ k.val then inFlight c k else landed m c k) fun k hk => ?_).trans ?_
  · have hk' : k.val ≠ j.val := fun e => hk (Fin.ext e)
    by_cases h1 : j.val ≤ k.val
    · rw [if_pos h1, if_pos (show j.val + 1 ≤ k.val by omega)]
    · rw [if_neg h1, if_neg (show ¬ j.val + 1 ≤ k.val by omega)]
  · rw [if_neg (show ¬ b ≤ j.val by omega), if_pos (Nat.le_refl _), if_neg (show ¬ b ≤ j.val by omega), if_neg (show ¬ j.val + 1 ≤ j.val by omega)]

/-- A fresh chunk gets under way. -/
theorem chunks_go (c : Dev nD) (j : Fin 32) (a : ℕ) (h : a ≤ j.val) :
    (chunks m c a j.val : sProp 𝕄) ⊢ iprop(fresh m c j ∗ (inFlight c j -∗ chunks m c a (j.val + 1))) := by
  unfold chunks
  refine (family_step (I := Fin 32) j (Ψ := fun k : Fin 32 => if j.val + 1 ≤ k.val then fresh m c k else if a ≤ k.val then inFlight c k else landed m c k) fun k hk => ?_).trans ?_
  · have hk' : k.val ≠ j.val := fun e => hk (Fin.ext e)
    by_cases h1 : j.val ≤ k.val
    · rw [if_pos h1, if_pos (show j.val + 1 ≤ k.val by omega)]
    · rw [if_neg h1, if_neg (show ¬ j.val + 1 ≤ k.val by omega)]
  · rw [if_pos (Nat.le_refl _), if_neg (show ¬ j.val + 1 ≤ j.val by omega), if_pos h]

/-! ## The stages -/

/-- A stage before a rest. -/
theorem seq {α β : Type} (c : Dev nD) {p : Prog (TpuEff nD τ sig (Elt F) Λ₀ .tc) α} {k : α → Prog (TpuEff nD τ sig (Elt F) Λ₀ .tc) β} {Q : β → sProp 𝕄} {P : sProp 𝕄}
    (M : α → sProp 𝕄) (h₁ : P ⊢ wp frame (wpE (defs₀ (F := F)) 𝒱₀ (c : Thread nD τ) none) Set.univ p M)
    (h₂ : ∀ a, M a ⊢ wp frame (wpE (defs₀ (F := F)) 𝒱₀ (c : Thread nD τ) none) Set.univ (k a) Q) :
    P ⊢ wp frame (wpE (defs₀ (F := F)) 𝒱₀ (c : Thread nD τ) none) Set.univ (p >>= k) Q := by
  rw [wp_bind]
  exact h₁.trans (wp_mono _ _ _ h₂)

/-- Meeting the partner: the own receiving result goes to the partner, the partner's comes. -/
theorem meet {α : Type} (K : GSem nD τ sig → ℕ) (c : Dev nD) (Z : sProp 𝕄) {d : Dev nD} (ed : d = pr c) {k : PUnit → Prog (TpuEff nD τ sig (Elt F) Λ₀ .tc) α} {Q : α → sProp 𝕄}
    (h : iprop(mid m K c 0 ∗ Z) ⊢ wp frame (wpE (defs₀ (F := F)) 𝒱₀ (c : Thread nD τ) none) Set.univ (k ⟨⟩) Q) :
    iprop(entry m K c ∗ Z)
      ⊢ wp frame (wpE (defs₀ (F := F)) 𝒱₀ (c : Thread nD τ) none) Set.univ
          (.op (.semSignal (d : Thread nD τ) barS 1) fun _ => .op (.semWait barS 1) k) Q := by
  subst ed
  unfold entry
  iintro ⟨⟨#HR, #Hlev, ⟨Hat, Hc, #Hr, Ht, Hpay⟩, Hch, Hun, Harr, ⟨%W, HO⟩⟩, HZ⟩
  iapply (Rounds.wp_signal 𝒱₀ ER (exRd m) (c : Thread nD τ) none (dst := (pr c : Thread nD τ)) (sem := barS) (r := 0) (d := ()) (κ := K (barCell (pr c)))
      (mem_duties m (pr c) (.reg barS) 0 Nat.one_pos) rfl () (owed c 0) rfl) $$ [HO Ht Hpay]
  · isplitr; · iapply (rec_bar m K (pr c)); iexact HR
    isplitl [HO]; · iexact HO
    isplitl [Ht]; · iexact Ht
    isplitl [Hpay]; · iapply (Entails.of_eq (show (barPay m (pr c) : sProp 𝕄) = (exRd m).payload (barCell (pr c)) 0 () from rfl)) $$ Hpay
    iexact Hr
  iintro HO
  iapply (Rounds.wp_wait_rest_token 𝒱₀ ER (exRd m) (c : Thread nD τ) none (κ := K (barCell c))
      (wpE_semWait_eq 𝒱₀ (c : Thread nD τ) none Set.univ) (Set.mem_univ _) () (O := owed c 0) (W := W) (R := 0) (m := 0) (T := ∅)
      ((Nat.zero_add 1).trans (expect_bar m c).symm)) $$ [Hc HO Hat]
  · isplitr; · iapply (rec_bar m K c); iexact HR
    isplitl [Hc]; · iexact Hc
    isplitl [HO]; · iexact HO
    isplitr; · iapply (mayWait_low c (.reg barS) 0 (Nat.le_refl 1)); iexact Hlev
    iexact Hat
  iintro ⟨HO, Hat, -, Hpay⟩
  ihave Hp := (Entails.of_eq ((rest_tc m c (.reg barS) 0 Nat.one_pos).trans (targets_zero m c))) $$ Hpay
  iapply h
  isplitr [HZ]
  · unfold mid
    isplitr; · iexact HR
    isplitr; · iexact Hlev
    isplitl [Hat]; · iexact Hat
    isplitl [Hch]; · iexact Hch
    isplitl [Hun]; · iexact Hun
    isplitl [Hp]; · iexact Hp
    isplitl [Harr]; · iexact Harr
    iexists _; iexact HO
  iexact HZ

/-- The first two chunks find their slots unused. -/
theorem free_early (K : GSem nD τ sig → ℕ) (c : Dev nD) (j : Fin 32) (hj : j.val < 2) : (mid m K c j.val : sProp 𝕄) ⊢ free m K c j := by
  unfold mid free
  iintro ⟨#HR, #Hlev, Hat, Hch, Hun, Hta, Harr, HO⟩
  ihave Hun := (unused_step c j hj) $$ Hun
  icases Hun with ⟨Hrd, Hun⟩
  isplitr; · iexact HR
  isplitr; · iexact Hlev
  isplitl [Hat]; · iexact Hat
  isplitl [Hch]; · rw [show j.val + 1 - 2 = j.val - 2 by omega]; iexact Hch
  isplitl [Hun]; · iexact Hun
  isplitl [Hta]; · iexact Hta
  isplitl [Harr]; · iexact Harr
  isplitl [Hrd]; · iexact Hrd
  iexact HO

/-- A later chunk frees its slot by waiting for the chunk two before. -/
theorem free_late {α : Type} (K : GSem nD τ sig → ℕ) (c : Dev nD) (j j' : Fin 32) (hj : j'.val + 2 = j.val) (Z : sProp 𝕄)
    {sp₁ sp₁' sp₂ sp₂' : Space} {s₁ s₁' s₂ s₂' : Shape} {e₁ e₁' e₂ e₂' : EltTy} {sem₁ sem₂ : DmaSem sig}
    {a₁ : Memref sig .tc sp₁' s₁' e₁'} {b₁ : Memref sig .tc sp₁ s₁ e₁} {a₂ : Memref sig .tc sp₂' s₂' e₂'} {b₂ : Memref sig .tc sp₂ s₂ e₂}
    {ha₁ : a₁.view.WordExact} {hb₁ : b₁.view.WordExact} {ha₂ : a₂.view.WordExact} {hb₂ : b₂.view.WordExact}
    (h₁ : sem₁ = sendS j') (hN₁ : b₁.view.dmaCredit = N) (h₂ : sem₂ = slotS (sl j')) (hN₂ : b₂.view.dmaCredit = N)
    {k : PUnit → Prog (TpuEff nD τ sig (Elt F) Λ₀ .tc) α} {Q : α → sProp 𝕄}
    (h : iprop(free m K c j ∗ Z) ⊢ wp frame (wpE (defs₀ (F := F)) 𝒱₀ (c : Thread nD τ) none) Set.univ (k ⟨⟩) Q) :
    iprop(mid m K c j.val ∗ Z) ⊢ wp frame (wpE (defs₀ (F := F)) 𝒱₀ (c : Thread nD τ) none) Set.univ
              (.op (.waitDma2 sem₁ a₁ b₁ ha₁ hb₁) fun _ => .op (.waitDma2 sem₂ a₂ b₂ ha₂ hb₂) k) Q := by
  unfold mid
  rw [show j.val - 2 = j'.val by omega]
  iintro ⟨⟨#HR, #Hlev, Hat, Hch, Hun, Hta, Harr, HO⟩, HZ⟩
  ihave Hch := (chunks_land m c j' j.val (by omega)) $$ Hch
  icases Hch with ⟨Hin, Hback⟩
  iapply (retire m K c j' j.val h₁ hN₁ h₂ hN₂) $$ [Hin HO]
  · isplitr; · iexact HR
    isplitr; · iexact Hlev
    isplitl [Hin]; · iexact Hin
    iexact HO
  iintro ⟨Hl, Hrd, HO⟩
  iapply h
  isplitr [HZ]
  · unfold free
    rw [show j.val + 1 - 2 = j'.val + 1 by omega, ← unused_late c j.val (by omega), show j.val / 2 = j'.val / 2 + 1 by omega,
      show sl j = sl j' from Fin.ext (by show j.val % 2 = j'.val % 2; omega)]
    isplitr; · iexact HR
    isplitr; · iexact Hlev
    isplitl [Hat]; · iexact Hat
    isplitl [Hback Hl]; · iapply Hback; iexact Hl
    isplitl [Hun]; · iexact Hun
    isplitl [Hta]; · iexact Hta
    isplitl [Harr]; · iexact Harr
    isplitl [Hrd]; · iexact Hrd
    iexact HO
  iexact HZ

/-- Loading a whole buffer of known contents. -/
theorem load_whole {α : Type} (c : Dev nD) {cs : CoreSpace} {s : Shape} {e : EltTy} {M : Memref sig .tc cs s e} {X : s.Idx → Elt F e} {q : PosShare TreeShare}
    {o : Fin s.rank → ℕ} {hin : ∀ a, o a + s.size a ≤ s.size a} {hl : M.view.LoadsAt (Rect.unit o s.size hin).toLoadRect}
    {k : (s.Idx → Elt F e) → Prog (TpuEff nD τ sig (Elt F) Λ₀ .tc) α} {Q : α → sProp 𝕄} :
    (owns (c : Thread nD τ) M q X : sProp 𝕄)
      ⊢ iprop((owns (c : Thread nD τ) M q X -∗ wp frame (wpE (defs₀ (F := F)) 𝒱₀ (c : Thread nD τ) none) Set.univ (k X) Q)
          -∗ wp frame (wpE (defs₀ (F := F)) 𝒱₀ (c : Thread nD τ) none) Set.univ (.op (.load M (Rect.unit o s.size hin).toLoadRect hl) k) Q) := by
  unfold owns
  iintro ⟨%f, %hX, H⟩ Hk
  iapply (wp_load 𝒱₀ (c : Thread nD τ) none Set.univ (S := M.view.set) (View.setOn_subset_set _ _)) $$ H
  iintro H
  rw [show M.view.readAt (Elt F) (Rect.unit o s.size hin).toLoadRect f = X from by
    funext z
    subst hX
    show M.view.read (Elt F) f ((Rect.unit o s.size hin).emb z) = M.view.read (Elt F) f z
    rw [Rect.emb_unit_full hin z]]
  iapply Hk
  iexists f
  isplitr; · ipureintro; exact hX
  iexact H

/-- The chunk stored over its slot, named. -/
theorem slot_filled (c : Dev nD) (j : Fin 32) (f : S2x1024x512.Idx → Elt F .f32) :
    ((((Memref.whole cc0_scratch0).access (slotR (sl j))).loc (c : Thread nD τ) ↦[(slV (sl j)).view.set]{fullShare}
        ((Memref.whole cc0_scratch0).access (slotR (sl j))).write (Elt F) f (prod m c j) Finset.univ : sProp 𝕄))
      = slPts c (sl j) fullShare (slotC m c j) :=
  pointsTo_congr fun i hi => write_slot m c j (sl j) f i hi

/-- Filling the slot: what it held is loaded, and the chunk stored over it. -/
theorem fill {α : Type} (K : GSem nD τ sig → ℕ) (c : Dev nD) (j : Fin 32) (Z : sProp 𝕄)
    {o : Fin 3 → ℕ} (eo : o = ![(sl j).val, 0, 0]) {hin : ∀ a, o a + S1x1024x512.size a ≤ S2x1024x512.size a}
    {hl : (Memref.whole cc0_scratch0).view.LoadsAt (Rect.unit (s := S2x1024x512) o S1x1024x512.size hin).toLoadRect}
    {w : S1x1024x512.Idx → Elt F .f32} (ew : w = prod m c j)
    {hx : ((Memref.whole cc0_scratch0).access (Rect.unit (s := S2x1024x512) o S1x1024x512.size hin)).Stores Finset.univ} {hm}
    {k : PUnit → Prog (TpuEff nD τ sig (Elt F) Λ₀ .tc) α} {Q : α → sProp 𝕄}
    (h : iprop(filled m K c j ∗ Z) ⊢ wp frame (wpE (defs₀ (F := F)) 𝒱₀ (c : Thread nD τ) none) Set.univ (k ⟨⟩) Q) :
    iprop(free m K c j ∗ Z) ⊢ wp frame (wpE (defs₀ (F := F)) 𝒱₀ (c : Thread nD τ) none) Set.univ
      (.op (.load (Memref.whole cc0_scratch0) (Rect.unit (s := S2x1024x512) o S1x1024x512.size hin).toLoadRect hl) fun _ =>
        .op (.store (Memref.whole cc0_scratch0) (Rect.unit (s := S2x1024x512) o S1x1024x512.size hin) w Finset.univ hx hm) k) Q := by
  subst eo; subst ew
  unfold free ready
  iintro ⟨⟨#HR, #Hlev, Hat, Hch, Hun, Hta, Harr, ⟨HatT, #HrT, ⟨%f, Hs⟩⟩, HO⟩, HZ⟩
  iapply (wp_load_rect 𝒱₀ (c : Thread nD τ) none Set.univ (m := Memref.whole cc0_scratch0) (r := slotR (sl j)) (S := (slV (sl j)).view.set) (f := f)
    (by rw [slV_set_access])) $$ Hs
  iintro Hs
  iapply (wp_store 𝒱₀ (c : Thread nD τ) none Set.univ (m := Memref.whole cc0_scratch0) (r := slotR (sl j)) (S := (slV (sl j)).view.set) (f := f)
    (by rw [slV_set_access]; exact View.setOn_subset_set _ _)) $$ Hs
  iintro Hs
  iapply h
  isplitr [HZ]
  · unfold filled
    isplitr; · iexact HR
    isplitr; · iexact Hlev
    isplitl [Hat]; · iexact Hat
    isplitl [Hch]; · iexact Hch
    isplitl [Hun]; · iexact Hun
    isplitl [Hta]; · iexact Hta
    isplitl [Harr]; · iexact Harr
    isplitr [HO]
    · isplitl [HatT]; · iexact HatT
      isplitr; · iexact HrT
      iapply (Entails.of_eq (slot_filled m c j f)) $$ Hs
    iexact HO
  iexact HZ

/-- Sending the chunk. -/
theorem send_out {α : Type} (K : GSem nD τ sig → ℕ) (c : Dev nD) (j : Fin 32) (Z : sProp 𝕄)
    {d : Dev nD} {src₁ src₂ : Memref sig .tc .vmem S1024x512 .f32} {dst₁ dst₂ : Memref sig .tc .hbm S1024x512 .f32} {q₁ q₂ q₃ : DmaSem sig}
    {hs₁ : src₁.view.WordExact} {hd₁ : dst₁.view.WordExact} {ht₁ : DmaTarget.Typed (nD := nD) (τ := τ) (p := Proc.tc) .vmem (.dma q₁) (.here dst₁)}
    {hsc : dst₂.view.ref.isScScratch = false}
    {hs₂ : src₂.view.WordExact} {hd₂ : dst₂.view.WordExact} {ht₂ : DmaTarget.Typed (nD := nD) (τ := τ) (p := Proc.tc) .vmem (.dma q₃) (.remote (d : Thread nD τ) dst₂ (.dma q₂) hsc)}
    (es₁ : src₁ = slV (sl j)) (ed₁ : dst₁ = llV j) (eq₁ : q₁ = slotS (sl j))
    (es₂ : src₂ = slV (sl j)) (ed₂ : dst₂ = lrV j) (eq₂ : q₂ = sendS j) (eq₃ : q₃ = recvS j) (ed : d = pr c)
    {k : PUnit → Prog (TpuEff nD τ sig (Elt F) Λ₀ .tc) α} {Q : α → sProp 𝕄}
    (h : iprop(mid m K c (j.val + 1) ∗ Z) ⊢ wp frame (wpE (defs₀ (F := F)) 𝒱₀ (c : Thread nD τ) none) Set.univ (k ⟨⟩) Q) :
    iprop(filled m K c j ∗ Z) ⊢ wp frame (wpE (defs₀ (F := F)) 𝒱₀ (c : Thread nD τ) none) Set.univ
              (.op (.enqueueDma src₁ (.here dst₁) (.dma q₁) hs₁ hd₁ ht₁) fun _ =>
                .op (.enqueueDma src₂ (.remote (d : Thread nD τ) dst₂ (.dma q₂) hsc) (.dma q₃) hs₂ hd₂ ht₂) k) Q := by
  unfold filled
  iintro ⟨⟨#HR, #Hlev, Hat, Hch, Hun, Hta, Harr, ⟨HatT, #HrT, Hs⟩, HO⟩, HZ⟩
  ihave Hch := (chunks_go m c j (j.val + 1 - 2) (by omega)) $$ Hch
  icases Hch with ⟨Hf, Hback⟩
  ihave Hta := (targets_step m c j) $$ Hta
  icases Hta with ⟨Ht, Hta⟩
  iapply (issue m K c j es₁ ed₁ eq₁ es₂ ed₂ eq₂ eq₃ ed) $$ [Hf Ht HatT Hs HO]
  · isplitr; · iexact HR
    isplitl [Hf]; · iexact Hf
    isplitl [Ht]; · iexact Ht
    isplitl [HatT]; · iexact HatT
    isplitr; · iexact HrT
    isplitl [Hs]; · iexact Hs
    iexact HO
  iintro ⟨Hin, HO⟩
  iapply h
  isplitr [HZ]
  · unfold mid
    isplitr; · iexact HR
    isplitr; · iexact Hlev
    isplitl [Hat]; · iexact Hat
    isplitl [Hback Hin]; · iapply Hback; iexact Hin
    isplitl [Hun]; · iexact Hun
    isplitl [Hta]; · iexact Hta
    isplitl [Harr]; · iexact Harr
    iexact HO
  iexact HZ

end Cert.KernelIdeal.Exchange

end
-- ==== Proof.IBody.lean ====
/-
  The exchange kernel's body at one grid point, from the state before the point to the state after it.
-/
module

public import proofs.«01_k».proof.Proof.IStages
public import Idealize.SL.ProofMode.BigOp

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## After the last point -/

/-- Every transfer waited for, nothing closed yet. -/
def waited (c : Dev nD) : sProp 𝕄 :=
  iprop(atPos ER (barCell c) 1 ∅ 0 ∗ chunks m c 32 32 ∗ ready c 0 16 ∗ ready c 1 16)

/-- All counters back at zero, the own result at the product, the other at the partner's, the slots at anything, and
    nothing owed. -/
def done (c : Dev nD) : sProp 𝕄 :=
  iprop(semVal (barCell c) 0
    ∗ (semVal (slotCell c 0) 0 ∗ semVal (slotCell c 1) 0)
    ∗ (bigSep Finset.univ fun j : Fin 32 => semVal (sendCell c j) 0)
    ∗ (bigSep Finset.univ fun j : Fin 32 => semVal (recvCell c j) 0)
    ∗ (bigSep Finset.univ fun j : Fin 32 => llPts c j (full m c))
    ∗ (bigSep Finset.univ fun j : Fin 32 => lrPts c j (full m (pr c)))
    ∗ ((∃ f, slPts c 0 fullShare f) ∗ (∃ f, slPts c 1 fullShare f))
    ∗ owing c 0)

/-- A family of one-round cells, each past its round, gives all its counters back at zero. -/
theorem close_family (K : GSem nD τ sig → ℕ) (g : Fin 32 → GSem nD τ sig) (h1 : ∀ j, rounds (g j).2 = 1)
    (hI : ∀ j, records m K ⊢ cellInv ER (exRd m) (K (g j)) (g j)) :
    iprop(records m K ∗ bigSep Finset.univ fun j : Fin 32 => atPos ER (g j) 1 ∅ 0)
      ⊢ (|={Set.univ}=> bigSep Finset.univ fun j : Fin 32 => semVal (g j) 0 : sProp 𝕄) := by
  have hstep : iprop(records m K ∗ bigSep Finset.univ fun j : Fin 32 => atPos ER (g j) 1 ∅ 0)
      ⊢ (bigSep Finset.univ fun j : Fin 32 => iprop(cellInv ER (exRd m) (K (g j)) (g j) ∗ atPos ER (g j) 1 ∅ 0) : sProp 𝕄) := by
    rw [bigSep_sep']
    iintro ⟨#HR, Hat⟩
    isplitr; · iapply (bigSep_intro_persistent fun j _ => hI j); iexact HR
    iexact Hat
  refine hstep.trans ?_
  exact Rounds.cells_close ER (exRd m) Finset.univ g (fun j => K (g j)) (fun _ _ => Set.mem_univ _) (fun _ _ => id) (fun _ => 1)
    (fun j _ r hr => duties_later m (g j) r (by rw [h1 j]; exact hr))

/-- Closing everything. -/
theorem finish (K : GSem nD τ sig → ℕ) (c : Dev nD) (Z : sProp 𝕄) :
    iprop((waited m c ∗ Z) ∗ records m K ∗ levAts L lv ∗ owing c 0 ∗ arrivals m c 32) ⊢ (|={Set.univ}=> iprop(done m c ∗ Z) : sProp 𝕄) := by
  have hch : (chunks m c 32 32 : sProp 𝕄) = iprop((bigSep Finset.univ fun j : Fin 32 => atPos ER (sendCell c j) 1 ∅ 0) ∗ bigSep Finset.univ fun j : Fin 32 => llPts c j (full m c)) := by
    unfold chunks
    rw [bigSep_congr (Ψ := fun j : Fin 32 => landed m c j) fun j _ => by rw [if_neg (by have := j.isLt; omega), if_neg (by have := j.isLt; omega)]]
    unfold landed
    exact bigSep_sep' _ _ _
  have har : (arrivals m c 32 : sProp 𝕄) = iprop((bigSep Finset.univ fun j : Fin 32 => atPos ER (recvCell c j) 1 ∅ 0) ∗ bigSep Finset.univ fun j : Fin 32 => lrPts c j (full m (pr c))) := by
    unfold arrivals
    rw [bigSep_congr (Ψ := fun j : Fin 32 => arrived m c j) fun j _ => if_pos j.isLt]
    unfold arrived
    exact bigSep_sep' _ _ _
  unfold waited
  rw [hch, har]
  unfold ready
  iintro ⟨⟨⟨Hb, ⟨HatS, Hll⟩, ⟨Hat0, -, Hs0⟩, ⟨Hat1, -, Hs1⟩⟩, HZ⟩, #HR, -, HO, ⟨HatR, Hlr⟩⟩
  imod (close m (K (barCell c)) (barCell c)) $$ [Hb] with Hb
  · isplitr; · iapply (rec_bar m K c); iexact HR
    iexact Hb
  imod (close m (K (slotCell c 0)) (slotCell c 0)) $$ [Hat0] with H0
  · isplitr; · iapply (rec_slot m K c 0); iexact HR
    rw [show rounds (slotCell c 0).2 = 16 from rounds_slot 0]; iexact Hat0
  imod (close m (K (slotCell c 1)) (slotCell c 1)) $$ [Hat1] with H1
  · isplitr; · iapply (rec_slot m K c 1); iexact HR
    rw [show rounds (slotCell c 1).2 = 16 from rounds_slot 1]; iexact Hat1
  imod (close_family m K (fun j => sendCell c j) (fun j => rounds_send j) (fun j => rec_send m K c j)) $$ [HatS] with HS
  · isplitr; · iexact HR
    iexact HatS
  imod (close_family m K (fun j => recvCell c j) (fun j => rounds_recv j) (fun j => rec_recv m K c j)) $$ [HatR] with HV
  · isplitr; · iexact HR
    iexact HatR
  imodintro
  unfold done
  isplitr [HZ]
  · isplitl [Hb]; · iexact Hb
    isplitl [H0 H1]
    · isplitl [H0] <;> iassumption
    isplitl [HS]; · iexact HS
    isplitl [HV]; · iexact HV
    isplitl [Hll]; · iexact Hll
    isplitl [Hlr]; · iexact Hlr
    isplitl [Hs0 Hs1]
    · isplitl [Hs0] <;> iassumption
    iexact HO
  iexact HZ

/-- Waiting for the last two chunks' copies. -/
theorem last_two {α : Type} (K : GSem nD τ sig → ℕ) (c : Dev nD) (Z : sProp 𝕄)
    {sp₁ sp₁' sp₂ sp₂' sp₃ sp₃' sp₄ sp₄' : Space} {s₁ s₁' s₂ s₂' s₃ s₃' s₄ s₄' : Shape} {e₁ e₁' e₂ e₂' e₃ e₃' e₄ e₄' : EltTy} {sem₁ sem₂ sem₃ sem₄ : DmaSem sig}
    {a₁ : Memref sig .tc sp₁' s₁' e₁'} {b₁ : Memref sig .tc sp₁ s₁ e₁} {a₂ : Memref sig .tc sp₂' s₂' e₂'} {b₂ : Memref sig .tc sp₂ s₂ e₂}
    {a₃ : Memref sig .tc sp₃' s₃' e₃'} {b₃ : Memref sig .tc sp₃ s₃ e₃} {a₄ : Memref sig .tc sp₄' s₄' e₄'} {b₄ : Memref sig .tc sp₄ s₄ e₄}
    {ha₁ : a₁.view.WordExact} {hb₁ : b₁.view.WordExact} {ha₂ : a₂.view.WordExact} {hb₂ : b₂.view.WordExact}
    {ha₃ : a₃.view.WordExact} {hb₃ : b₃.view.WordExact} {ha₄ : a₄.view.WordExact} {hb₄ : b₄.view.WordExact}
    (h₁ : sem₁ = sendS 30) (hN₁ : b₁.view.dmaCredit = N) (h₂ : sem₂ = slotS 0) (hN₂ : b₂.view.dmaCredit = N)
    (h₃ : sem₃ = sendS 31) (hN₃ : b₃.view.dmaCredit = N) (h₄ : sem₄ = slotS 1) (hN₄ : b₄.view.dmaCredit = N)
    {k : PUnit → Prog (TpuEff nD τ sig (Elt F) Λ₀ .tc) α} {Q : α → sProp 𝕄}
    (h : iprop((waited m c ∗ Z) ∗ records m K ∗ levAts L lv ∗ owing c 0 ∗ arrivals m c 0)
      ⊢ wp frame (wpE (defs₀ (F := F)) 𝒱₀ (c : Thread nD τ) none) Set.univ (k ⟨⟩) Q) :
    iprop(mid m K c 32 ∗ Z) ⊢ wp frame (wpE (defs₀ (F := F)) 𝒱₀ (c : Thread nD τ) none) Set.univ
              (.op (.waitDma2 sem₁ a₁ b₁ ha₁ hb₁) fun _ => .op (.waitDma2 sem₂ a₂ b₂ ha₂ hb₂) fun _ =>
                .op (.waitDma2 sem₃ a₃ b₃ ha₃ hb₃) fun _ => .op (.waitDma2 sem₄ a₄ b₄ ha₄ hb₄) k) Q := by
  unfold mid
  iintro ⟨⟨#HR, #Hlev, Hat, Hch, -, -, Harr, HO⟩, HZ⟩
  ihave Hch := (show (chunks m c (32 - 2) 32 : sProp 𝕄) ⊢ iprop(inFlight c 30 ∗ (landed m c 30 -∗ chunks m c 31 32)) from chunks_land m c 30 32 (by decide)) $$ Hch
  icases Hch with ⟨Hin, Hback⟩
  iapply (retire m K c 30 32 h₁ hN₁ h₂ hN₂) $$ [Hin HO]
  · isplitr; · iexact HR
    isplitr; · iexact Hlev
    isplitl [Hin]; · iexact Hin
    iexact HO
  iintro ⟨Hl, Hr0, HO⟩
  ihave Hch := Hback $$ Hl
  ihave Hch := (show (chunks m c 31 32 : sProp 𝕄) ⊢ iprop(inFlight c 31 ∗ (landed m c 31 -∗ chunks m c 32 32)) from chunks_land m c 31 32 (by decide)) $$ Hch
  icases Hch with ⟨Hin, Hback⟩
  iapply (retire m K c 31 32 h₃ hN₃ h₄ hN₄) $$ [Hin HO]
  · isplitr; · iexact HR
    isplitr; · iexact Hlev
    isplitl [Hin]; · iexact Hin
    iexact HO
  iintro ⟨Hl, Hr1, HO⟩
  ihave Hch := Hback $$ Hl
  iapply h
  unfold waited
  isplitr [HO Harr]
  · isplitr [HZ]
    · isplitl [Hat]; · iexact Hat
      isplitl [Hch]; · iexact Hch
      isplitl [Hr0]; · iexact Hr0
      iexact Hr1
    iexact HZ
  isplitr; · iexact HR
  isplitr; · iexact Hlev
  isplitl [HO]; · rw [← owed_last c]; iexact HO
  iexact Harr

/-! ## The body -/

/-- The chunk a grid point works on. -/
abbrev at_ (i : grid0.Coords) : Fin 32 := ⟨(i 0).val, (i 0).isLt⟩

/-- The exchange's state before point n. -/
def state (K : GSem nD τ sig → ℕ) (c : Dev nD) (n : ℕ) : sProp 𝕄 :=
  if n = 0 then entry m K c else if n = 32 then done m c else mid m K c n

theorem cond1_iff : ∀ i : grid0.Coords, k0_cond1 i = 1#1 ↔ (i 0).val = 0 := by decide +kernel
theorem cond2_iff : ∀ i : grid0.Coords, k0_cond2 i = 1#1 ↔ 2 ≤ (i 0).val := by decide +kernel
theorem cond3_iff : ∀ i : grid0.Coords, Scalar.cmpi .ne (Scalar.extui (Scalar.cmpi .eq (BitVec.ofNat 32 (i 0).val) 31#32) : BitVec 32) 0#32 = 1#1 ↔ (i 0).val = 31 := by decide +kernel
theorem off1_eq : ∀ i : grid0.Coords, 2 ≤ (i 0).val → k0_off1 i = ![(i 0).val - 2] := by decide +kernel

/-- A piece of the program followed by the rest: what the piece leaves holds for each value it returns with the property. -/
theorem seq_pure {α β : Type} (c : Dev nD) {P S : sProp 𝕄} {Q : β → sProp 𝕄} {p : Prog (TpuEff nD τ sig (Elt F) Λ₀ .tc) α} {k : α → Prog (TpuEff nD τ sig (Elt F) Λ₀ .tc) β}
    (φ : α → Prop) (h₁ : P ⊢ wp frame (wpE (defs₀ (F := F)) 𝒱₀ (c : Thread nD τ) none) Set.univ p (fun a => iprop(⌜φ a⌝ ∗ S)))
    (h₂ : ∀ a, φ a → (S ⊢ wp frame (wpE (defs₀ (F := F)) 𝒱₀ (c : Thread nD τ) none) Set.univ (k a) Q)) :
    P ⊢ wp frame (wpE (defs₀ (F := F)) 𝒱₀ (c : Thread nD τ) none) Set.univ (p >>= k) Q := by
  refine seq c (fun a => iprop(⌜φ a⌝ ∗ S)) h₁ fun a => ?_
  iintro ⟨%h, H⟩
  iapply (h₂ a h) $$ H

/-- Loading both operands and storing the chunk's product over its slot. -/
theorem compute {α : Type} (K : GSem nD τ sig → ℕ) (c : Dev nD) (j : Fin 32) (Z : sProp 𝕄)
    {M₁ : Memref sig .tc .vmem S1024x2048 .f32} {M₂ : Memref sig .tc .vmem S2048x512 .f32}
    {o₁ : Fin 2 → ℕ} {hin₁ : ∀ a, o₁ a + S1024x2048.size a ≤ S1024x2048.size a} {hl₁ : M₁.view.LoadsAt (Rect.unit (s := S1024x2048) o₁ S1024x2048.size hin₁).toLoadRect}
    {o₂ : Fin 2 → ℕ} {hin₂ : ∀ a, o₂ a + S2048x512.size a ≤ S2048x512.size a} {hl₂ : M₂.view.LoadsAt (Rect.unit (s := S2048x512) o₂ S2048x512.size hin₂).toLoadRect}
    {o : Fin 3 → ℕ} (eo : o = ![(sl j).val, 0, 0]) {hin : ∀ a, o a + S1x1024x512.size a ≤ S2x1024x512.size a}
    {hl : (Memref.whole cc0_scratch0).view.LoadsAt (Rect.unit (s := S2x1024x512) o S1x1024x512.size hin).toLoadRect}
    {hx : ((Memref.whole cc0_scratch0).access (Rect.unit (s := S2x1024x512) o S1x1024x512.size hin)).Stores Finset.univ} {hm}
    {k : PUnit → Prog (TpuEff nD τ sig (Elt F) Λ₀ .tc) α} {Q : α → sProp 𝕄}
    (h : iprop(filled m K c j ∗ owns (c : Thread nD τ) M₁ fullShare (xOf m c) ∗ owns (c : Thread nD τ) M₂ fullShare (wBlk m c j) ∗ Z)
      ⊢ wp frame (wpE (defs₀ (F := F)) 𝒱₀ (c : Thread nD τ) none) Set.univ (k ⟨⟩) Q) :
    iprop(free m K c j ∗ owns (c : Thread nD τ) M₁ fullShare (xOf m c) ∗ owns (c : Thread nD τ) M₂ fullShare (wBlk m c j) ∗ Z)
      ⊢ wp frame (wpE (defs₀ (F := F)) 𝒱₀ (c : Thread nD τ) none) Set.univ
        (.op (.load M₁ (Rect.unit (s := S1024x2048) o₁ S1024x2048.size hin₁).toLoadRect hl₁) fun a =>
          .op (.load M₂ (Rect.unit (s := S2048x512) o₂ S2048x512.size hin₂).toLoadRect hl₂) fun b =>
            .op (.load (Memref.whole cc0_scratch0) (Rect.unit (s := S2x1024x512) o S1x1024x512.size hin).toLoadRect hl) fun _ =>
              .op (.store (Memref.whole cc0_scratch0) (Rect.unit (s := S2x1024x512) o S1x1024x512.size hin) (k0_pay1 a b) Finset.univ hx hm) k) Q := by
  iintro ⟨H, Hx, Hw, HZ⟩
  iapply (load_whole c) $$ Hx
  iintro Hx
  iapply (load_whole c) $$ Hw
  iintro Hw
  iapply (fill m K c j iprop(owns (c : Thread nD τ) M₁ fullShare (xOf m c) ∗ owns (c : Thread nD τ) M₂ fullShare (wBlk m c j) ∗ Z) eo rfl h)
  isplitl [H]; · iexact H
  isplitl [Hx]; · iexact Hx
  isplitl [Hw]; · iexact Hw
  iexact HZ

theorem off4_eq (i : grid0.Coords) (h : 2 ≤ (i 0).val) : k0_off4 i = ![((i 0).val - 2) % 2] :=
  (k0_off4_eq i).trans (congrArg (fun n => ![n]) (by omega))

/-- What a transfer of any printed slot counts. -/
theorem credit_slot (o : Fin 3 → ℕ) (h : ∀ a, o a + S1x1024x512.size a ≤ S2x1024x512.size a) :
    (((Memref.whole cc0_scratch0).slice (Rect.unit (s := S2x1024x512) o S1x1024x512.size h) (fun _ => rfl)).squeeze S1024x512 squeezes_S1x1024x512_S1024x512).view.dmaCredit = N := rfl

/-- What a transfer of any printed slice of the own result counts. -/
theorem credit_left (o : Fin 2 → ℕ) (h : ∀ a, o a + S1024x512.size a ≤ S1024x16384.size a) :
    ((Memref.whole main_v1_0).slice (Rect.unit (s := S1024x16384) o S1024x512.size h) (fun _ => rfl)).view.dmaCredit = N := rfl

/-- What a transfer of any printed slice of the other result counts. -/
theorem credit_right (o : Fin 2 → ℕ) (h : ∀ a, o a + S1024x512.size a ≤ S1024x16384.size a) :
    ((Memref.whole main_v1_1).slice (Rect.unit (s := S1024x16384) o S1024x512.size h) (fun _ => rfl)).view.dmaCredit = N := rfl

/-- The first part of a grid point: the partner met at the first, the slot free, the chunk's product computed into it. -/
theorem first_part (K : GSem nD τ sig → ℕ) (c : Dev nD) (i : grid0.Coords)
    (arg1 : Memref sig .tc .vmem S1024x2048 .f32) (harg1 : arg1.IsWhole) (arg2 : Memref sig .tc .vmem S2048x512 .f32) (harg2 : arg2.IsWhole) (Z : sProp 𝕄) :
    iprop(state m K c (i 0).val ∗ owns (c : Thread nD τ) arg1 fullShare (xOf m c) ∗ owns (c : Thread nD τ) arg2 fullShare (wBlk m c (at_ i)) ∗ Z)
      ⊢ wp frame (wpE (defs₀ (F := F)) 𝒱₀ (c : Thread nD τ) none) Set.univ
          (k0_part14 (F := F) i arg1 harg1 arg2 harg2 (Memref.whole main_v1_0) (Memref.isWhole_whole _) (Memref.whole main_v1_1) (Memref.isWhole_whole _)
            (Memref.whole cc0_scratch0) (Memref.isWhole_whole _) cc0_scratch1 cc0_scratch2 cc0_scratch3)
          (fun x => iprop(⌜x.1 = BitVec.ofNat 32 (i 0).val ∧ x.2.1 = c⌝ ∗ filled m K c (at_ i) ∗ owns (c : Thread nD τ) arg1 fullShare (xOf m c) ∗ owns (c : Thread nD τ) arg2 fullShare (wBlk m c (at_ i)) ∗ Z)) := by
  have hi : (i 0).val < 32 := (i 0).isLt
  simp only [k0_part14_eq_skeleton]
  unfold k0_part14_skel
  simp only [semSignalWord, semWaitWord, Prog.lift, Prog.bind_op, Prog.bind_ret, Prog.pure_eq_ret, Prog.bind_assoc, wp_deviceId]
  have hret : ∀ (R : sProp 𝕄) (v : Σ' (_ : BitVec 32) (_ : Dev nD) (_ : BitVec 32) (_ : BitVec 32), BitVec 32), v.1 = BitVec.ofNat 32 (i 0).val ∧ v.2.1 = c →
      (R ⊢ wp frame (wpE (defs₀ (F := F)) 𝒱₀ (c : Thread nD τ) none) Set.univ (.ret v : Prog (TpuEff nD τ sig (Elt F) Λ₀ .tc) _)
        (fun x => iprop(⌜x.1 = BitVec.ofNat 32 (i 0).val ∧ x.2.1 = c⌝ ∗ R))) := fun R v hv => by
    rw [wp_ret]
    iintro H; imodintro
    isplitr; · ipureintro; exact hv
    iexact H
  rcases (by omega : (i 0).val = 0 ∨ (i 0).val = 1 ∨ 2 ≤ (i 0).val) with h0 | h0 | h2
  · have e1 : k0_cond1 i = 1#1 := (cond1_iff i).mpr h0
    have e2 : ¬ k0_cond2 i = 1#1 := fun e => by have := (cond2_iff i).mp e; omega
    rw [dif_pos e1, dif_neg e2, show state m K c (i 0).val = entry m K c by unfold state; rw [if_pos h0]]
    refine meet m K c _ (dev1_eq i c e1) ?_
    refine (sep_mono_left ((Entails.of_eq (congrArg (mid m K c) h0.symm)).trans (free_early m K c (at_ i) (by show (i 0).val < 2; omega)))).trans ?_
    exact compute m K c (at_ i) Z (k0_off5_eq i) (hret _ _ ⟨rfl, rfl⟩)
  · have e1 : ¬ k0_cond1 i = 1#1 := fun e => by have := (cond1_iff i).mp e; omega
    have e2 : ¬ k0_cond2 i = 1#1 := fun e => by have := (cond2_iff i).mp e; omega
    rw [dif_neg e1, dif_neg e2, show state m K c (i 0).val = mid m K c (at_ i).val by unfold state; rw [if_neg (by omega), if_neg (by omega)]]
    refine (sep_mono_left (free_early m K c (at_ i) (by show (i 0).val < 2; omega))).trans ?_
    exact compute m K c (at_ i) Z (k0_off5_eq i) (hret _ _ ⟨rfl, rfl⟩)
  · have e1 : ¬ k0_cond1 i = 1#1 := fun e => by have := (cond1_iff i).mp e; omega
    have e2 : k0_cond2 i = 1#1 := (cond2_iff i).mpr h2
    rw [dif_neg e1, dif_pos e2, show state m K c (i 0).val = mid m K c (at_ i).val by unfold state; rw [if_neg (by omega), if_neg (by omega)]]
    refine free_late m K c (at_ i) ⟨(i 0).val - 2, by omega⟩ (by show (i 0).val - 2 + 2 = (i 0).val; omega) _
      (sendS_of _ _ (off1_eq i h2) _) (credit_slot _ _) (slotS_of _ _ (off4_eq i h2) _) (credit_left _ _) ?_
    exact compute m K c (at_ i) Z (k0_off5_eq i) (hret _ _ ⟨rfl, rfl⟩)

/-- One grid point: the state moves on by one chunk, the two operands' staging buffers are left as found. -/
theorem body_run (K : GSem nD τ sig → ℕ) (c : Dev nD) (i : grid0.Coords)
    (arg1 : Memref sig .tc .vmem S1024x2048 .f32) (harg1 : arg1.IsWhole) (arg2 : Memref sig .tc .vmem S2048x512 .f32) (harg2 : arg2.IsWhole) (Z : sProp 𝕄) :
    iprop(state m K c (i 0).val ∗ owns (c : Thread nD τ) arg1 fullShare (xOf m c) ∗ owns (c : Thread nD τ) arg2 fullShare (wBlk m c (at_ i)) ∗ Z)
      ⊢ wp frame (wpE (defs₀ (F := F)) 𝒱₀ (c : Thread nD τ) none) Set.univ
          (cc0__gemm_exchange_body (F := F) i arg1 harg1 arg2 harg2 (Memref.whole main_v1_0) (Memref.isWhole_whole _) (Memref.whole main_v1_1) (Memref.isWhole_whole _)
            (Memref.whole cc0_scratch0) (Memref.isWhole_whole _) cc0_scratch1 cc0_scratch2 cc0_scratch3)
          (fun _ => iprop(state m K c ((i 0).val + 1) ∗ owns (c : Thread nD τ) arg1 fullShare (xOf m c) ∗ owns (c : Thread nD τ) arg2 fullShare (wBlk m c (at_ i)) ∗ Z)) := by
  have hi : (i 0).val < 32 := (i 0).isLt
  simp only [cc0__gemm_exchange_body_eq_skeleton]
  unfold cc0__gemm_exchange_body_skel
  refine seq_pure c (S := iprop(filled m K c (at_ i) ∗ owns (c : Thread nD τ) arg1 fullShare (xOf m c) ∗ owns (c : Thread nD τ) arg2 fullShare (wBlk m c (at_ i)) ∗ Z))
    (fun x => x.1 = BitVec.ofNat 32 (i 0).val ∧ x.2.1 = c) ?_ ?_
  · exact first_part m K c i arg1 harg1 arg2 harg2 Z
  rintro ⟨a0, d0, a1, a2, a3⟩ ⟨rfl, rfl⟩
  simp only [Prog.lift, Prog.bind_op, Prog.bind_ret, Prog.pure_eq_ret]
  refine send_out m K _ (at_ i) _ (slV_of _ _ (k0_off8_eq i) _) (llV_of _ _ (k0_off7_eq i) _) (slotS_of _ _ (k0_off6_eq i) _)
    (slV_of _ _ (k0_off8_eq i) _) (lrV_of _ _ (k0_off7_eq i) _) (sendS_of _ _ (k0_off9_eq i) _) (recvS_of _ _ (k0_off9_eq i) _) (dev2_eq _) ?_
  by_cases h31 : (i 0).val = 31
  · rw [dif_pos ((cond3_iff i).mpr h31)]
    simp only [k0_part1_eq_skeleton, k0_part2_eq_skeleton, k0_part3_eq_skeleton, k0_part4_eq_skeleton, k0_part5_eq_skeleton, k0_part6_eq_skeleton, k0_part7_eq_skeleton,
      k0_part8_eq_skeleton, k0_part9_eq_skeleton, k0_part10_eq_skeleton, k0_part11_eq_skeleton, k0_part12_eq_skeleton, k0_part13_eq_skeleton]
    unfold k0_part1_skel k0_part2_skel k0_part3_skel k0_part4_skel k0_part5_skel k0_part6_skel k0_part7_skel k0_part8_skel k0_part9_skel k0_part10_skel k0_part11_skel k0_part12_skel k0_part13_skel
    simp only [Prog.lift, Prog.bind_op, Prog.bind_ret, Prog.pure_eq_ret, Prog.bind_assoc]
    rw [show (at_ i).val + 1 = 32 from congrArg (· + 1) h31]
    refine last_two m K _ _ (sendS_of ![30] 30 rfl _) (credit_slot _ _) (slotS_of ![0] 0 rfl _) (credit_left _ _) (sendS_of ![31] 31 rfl _) (credit_slot _ _) (slotS_of ![1] 1 rfl _) (credit_left _ _) ?_
    refine arrive m K _ _ 0 (recvS_of ![0] 0 rfl _) (credit_right _ _) ?_
    refine arrive m K _ _ 1 (recvS_of ![1] 1 rfl _) (credit_right _ _) ?_
    refine arrive m K _ _ 2 (recvS_of ![2] 2 rfl _) (credit_right _ _) ?_
    refine arrive m K _ _ 3 (recvS_of ![3] 3 rfl _) (credit_right _ _) ?_
    refine arrive m K _ _ 4 (recvS_of ![4] 4 rfl _) (credit_right _ _) ?_
    refine arrive m K _ _ 5 (recvS_of ![5] 5 rfl _) (credit_right _ _) ?_
    refine arrive m K _ _ 6 (recvS_of ![6] 6 rfl _) (credit_right _ _) ?_
    refine arrive m K _ _ 7 (recvS_of ![7] 7 rfl _) (credit_right _ _) ?_
    refine arrive m K _ _ 8 (recvS_of ![8] 8 rfl _) (credit_right _ _) ?_
    refine arrive m K _ _ 9 (recvS_of ![9] 9 rfl _) (credit_right _ _) ?_
    refine arrive m K _ _ 10 (recvS_of ![10] 10 rfl _) (credit_right _ _) ?_
    refine arrive m K _ _ 11 (recvS_of ![11] 11 rfl _) (credit_right _ _) ?_
    refine arrive m K _ _ 12 (recvS_of ![12] 12 rfl _) (credit_right _ _) ?_
    refine arrive m K _ _ 13 (recvS_of ![13] 13 rfl _) (credit_right _ _) ?_
    refine arrive m K _ _ 14 (recvS_of ![14] 14 rfl _) (credit_right _ _) ?_
    refine arrive m K _ _ 15 (recvS_of ![15] 15 rfl _) (credit_right _ _) ?_
    refine arrive m K _ _ 16 (recvS_of ![16] 16 rfl _) (credit_right _ _) ?_
    refine arrive m K _ _ 17 (recvS_of ![17] 17 rfl _) (credit_right _ _) ?_
    refine arrive m K _ _ 18 (recvS_of ![18] 18 rfl _) (credit_right _ _) ?_
    refine arrive m K _ _ 19 (recvS_of ![19] 19 rfl _) (credit_right _ _) ?_
    refine arrive m K _ _ 20 (recvS_of ![20] 20 rfl _) (credit_right _ _) ?_
    refine arrive m K _ _ 21 (recvS_of ![21] 21 rfl _) (credit_right _ _) ?_
    refine arrive m K _ _ 22 (recvS_of ![22] 22 rfl _) (credit_right _ _) ?_
    refine arrive m K _ _ 23 (recvS_of ![23] 23 rfl _) (credit_right _ _) ?_
    refine arrive m K _ _ 24 (recvS_of ![24] 24 rfl _) (credit_right _ _) ?_
    refine arrive m K _ _ 25 (recvS_of ![25] 25 rfl _) (credit_right _ _) ?_
    refine arrive m K _ _ 26 (recvS_of ![26] 26 rfl _) (credit_right _ _) ?_
    refine arrive m K _ _ 27 (recvS_of ![27] 27 rfl _) (credit_right _ _) ?_
    refine arrive m K _ _ 28 (recvS_of ![28] 28 rfl _) (credit_right _ _) ?_
    refine arrive m K _ _ 29 (recvS_of ![29] 29 rfl _) (credit_right _ _) ?_
    refine arrive m K _ _ 30 (recvS_of ![30] 30 rfl _) (credit_right _ _) ?_
    refine arrive m K _ _ 31 (recvS_of ![31] 31 rfl _) (credit_right _ _) ?_
    rw [wp_ret]
    refine (finish m K _ _).trans ?_
    rw [show ∀ d, state m K d 32 = done m d from fun _ => by unfold state; rw [if_neg (by decide), if_pos rfl]]
  · rw [dif_neg fun e => h31 ((cond3_iff i).mp e), wp_ret, show state m K _ ((i 0).val + 1) = mid m K _ ((at_ i).val + 1) by unfold state; rw [if_neg (by omega), if_neg (by omega)]]
    iintro H; imodintro; iexact H

end Cert.KernelIdeal.Exchange

end
-- ==== Proof.ISoft.lean ====
/-
  The softmax kernel's body at one grid point: from the two halves' blocks to the block of the whole result.
-/
module

public import proofs.«01_k».proof.Proof.IStages

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Two halves side by side -/

/-- A block of whole rows from its left and its right half. -/
def halves (p q : S64x16384.Idx → Elt F .f32) : S64x32768.Idx → Elt F .f32 := fun i =>
  if h : (i 1).val < 16384 then p (ix2 ⟨(i 0).val, (i 0).isLt⟩ ⟨(i 1).val, h⟩)
  else q (ix2 ⟨(i 0).val, (i 0).isLt⟩ ⟨(i 1).val - 16384, by have h1 : (i 1).val < 32768 := (i 1).isLt; omega⟩)

/-- What the body leaves in the result's block: the device's own columns on its own side. -/
def outBlk (c : Dev nD) (a b : Vec F S64x16384 .f32) : S64x32768.Idx → Elt F .f32 :=
  if k1_cond1 c = 1#1 then halves (k1_pay7 a b) (k1_pay8 a b) else halves (k1_pay8 a b) (k1_pay7 a b)

/-- The two branches exclude each other. -/
theorem other_branch : ∀ c : Dev nD, k1_cond2 c = 1#1 ↔ ¬ k1_cond1 c = 1#1 := by decide +kernel

/-! ## Storing a half -/

/-- What a view reads after a store through one of its rectangles: inside, the payload. -/
theorem read_store_in {cs : CoreSpace} {s : Shape} {e : EltTy} (M : Memref sig .tc cs s e) (r : Rect s) (f : M.view.ty.Contents (Elt F)) (w : r.shape.Idx → Elt F e)
    (x : r.shape.Idx) : M.view.read (Elt F) ((M.access r).write (Elt F) f w Finset.univ) (r.emb x) = w x := by
  rw [View.read_apply]
  show _root_.cast _ ((M.access r).write (Elt F) f w Finset.univ ((M.access r).emb x)) = _
  rw [View.write_emb_of_mem (v := M.access r) _ _ (Finset.mem_univ x), cast_cast, cast_eq]

/-- Outside, what it read before. -/
theorem read_store_out {cs : CoreSpace} {s : Shape} {e : EltTy} (M : Memref sig .tc cs s e) (r : Rect s) (f : M.view.ty.Contents (Elt F)) (w : r.shape.Idx → Elt F e)
    (i : s.Idx) (h : ∀ x, r.emb x ≠ i) : M.view.read (Elt F) ((M.access r).write (Elt F) f w Finset.univ) i = M.view.read (Elt F) f i := by
  rw [View.read_apply, View.read_apply, View.write_of_not_mem (v := M.access r) f w Finset.univ]
  intro hm
  obtain ⟨x, -, hx⟩ := Finset.mem_map.mp hm
  exact h x (M.view.emb.injective hx)

/-- The left half and the right half of a block, as rectangles. -/
theorem emb_half (o : ℕ) (h : ∀ a, (![0, o] : Fin 2 → ℕ) a + S64x16384.size a ≤ S64x32768.size a) (x : S64x16384.Idx) :
    ((Rect.unit (s := S64x32768) ![0, o] S64x16384.size h).emb x 0).val = (x 0).val ∧ ((Rect.unit (s := S64x32768) ![0, o] S64x16384.size h).emb x 1).val = o + (x 1).val := by
  constructor
  · show 0 + 1 * (x 0).val = (x 0).val
    omega
  · show o + 1 * (x 1).val = o + (x 1).val
    omega

/-- Both halves stored, whatever the block held. -/
theorem read_halves (M : Memref sig .tc .vmem S64x32768 .f32) (f : M.view.ty.Contents (Elt F)) (p q : S64x16384.Idx → Elt F .f32) :
    M.view.read (Elt F) ((M.access (Rect.unit (s := S64x32768) ![0, 16384] S64x16384.size inb_S64x32768_S64x16384_0_16384)).write (Elt F)
      ((M.access (Rect.unit (s := S64x32768) ![0, 0] S64x16384.size inb_S64x32768_S64x16384_0_0)).write (Elt F) f p Finset.univ) q Finset.univ) = halves p q := by
  funext i
  have h1 : (i 1).val < 32768 := (i 1).isLt
  unfold halves
  by_cases h : (i 1).val < 16384
  · rw [dif_pos h, read_store_out _ _ _ _ _ fun x hx => by
      have e := (emb_half 16384 inb_S64x32768_S64x16384_0_16384 x).2
      rw [hx] at e; omega]
    have e : i = (Rect.unit (s := S64x32768) ![0, 0] S64x16384.size inb_S64x32768_S64x16384_0_0).emb (ix2 ⟨(i 0).val, (i 0).isLt⟩ ⟨(i 1).val, h⟩ : S64x16384.Idx) := by
      have e := emb_half 0 inb_S64x32768_S64x16384_0_0 (ix2 ⟨(i 0).val, (i 0).isLt⟩ ⟨(i 1).val, h⟩ : S64x16384.Idx)
      funext a
      refine Fin.ext ?_
      fin_cases a
      · exact e.1.symm
      · exact (e.2.trans (Nat.zero_add _)).symm
    conv_lhs => rw [e]
    exact read_store_in _ _ _ _ _
  · rw [dif_neg h]
    have e : i = (Rect.unit (s := S64x32768) ![0, 16384] S64x16384.size inb_S64x32768_S64x16384_0_16384).emb (ix2 ⟨(i 0).val, (i 0).isLt⟩ ⟨(i 1).val - 16384, by omega⟩ : S64x16384.Idx) := by
      have e := emb_half 16384 inb_S64x32768_S64x16384_0_16384 (ix2 ⟨(i 0).val, (i 0).isLt⟩ ⟨(i 1).val - 16384, by omega⟩ : S64x16384.Idx)
      funext a
      refine Fin.ext ?_
      fin_cases a
      · exact e.1.symm
      · exact ((e.2.trans (show 16384 + ((i 1).val - 16384) = (i 1).val by omega))).symm
    conv_lhs => rw [e]
    exact read_store_in _ _ _ _ _

/-- Storing both halves, each after a load of what was there. -/
theorem store_halves {α : Type} (c : Dev nD) {M : Memref sig .tc .vmem S64x32768 .f32} {d : S64x32768.Idx → Elt F .f32} (p q : S64x16384.Idx → Elt F .f32)
    {hl₁ : M.view.LoadsAt (Rect.unit (s := S64x32768) ![0, 0] S64x16384.size inb_S64x32768_S64x16384_0_0).toLoadRect}
    {hx₁ : (M.access (Rect.unit (s := S64x32768) ![0, 0] S64x16384.size inb_S64x32768_S64x16384_0_0)).Stores Finset.univ} {hm₁}
    {hl₂ : M.view.LoadsAt (Rect.unit (s := S64x32768) ![0, 16384] S64x16384.size inb_S64x32768_S64x16384_0_16384).toLoadRect}
    {hx₂ : (M.access (Rect.unit (s := S64x32768) ![0, 16384] S64x16384.size inb_S64x32768_S64x16384_0_16384)).Stores Finset.univ} {hm₂}
    {k : PUnit → Prog (TpuEff nD τ sig (Elt F) Λ₀ .tc) α} {Q : α → sProp 𝕄} :
    (owns (c : Thread nD τ) M fullShare d : sProp 𝕄)
      ⊢ iprop((owns (c : Thread nD τ) M fullShare (halves p q) -∗ wp frame (wpE (defs₀ (F := F)) 𝒱₀ (c : Thread nD τ) none) Set.univ (k ⟨⟩) Q)
          -∗ wp frame (wpE (defs₀ (F := F)) 𝒱₀ (c : Thread nD τ) none) Set.univ
            (.op (.load M (Rect.unit (s := S64x32768) ![0, 0] S64x16384.size inb_S64x32768_S64x16384_0_0).toLoadRect hl₁) fun _ =>
              .op (.store M (Rect.unit (s := S64x32768) ![0, 0] S64x16384.size inb_S64x32768_S64x16384_0_0) p Finset.univ hx₁ hm₁) fun _ =>
                .op (.load M (Rect.unit (s := S64x32768) ![0, 16384] S64x16384.size inb_S64x32768_S64x16384_0_16384).toLoadRect hl₂) fun _ =>
                  .op (.store M (Rect.unit (s := S64x32768) ![0, 16384] S64x16384.size inb_S64x32768_S64x16384_0_16384) q Finset.univ hx₂ hm₂) k) Q) := by
  unfold owns
  iintro ⟨%f, %hX, H⟩ Hk
  iapply (wp_load 𝒱₀ (c : Thread nD τ) none Set.univ (S := M.view.set) (View.setOn_subset_set _ _)) $$ H
  iintro H
  iapply (wp_store 𝒱₀ (c : Thread nD τ) none Set.univ (m := M) (r := (Rect.unit (s := S64x32768) ![0, 0] S64x16384.size inb_S64x32768_S64x16384_0_0)) (S := M.view.set) (f := f) ((View.setOn_subset_set _ _).trans (View.set_slice_subset _ _))) $$ H
  iintro H
  iapply (wp_load 𝒱₀ (c : Thread nD τ) none Set.univ (S := M.view.set) (View.setOn_subset_set _ _)) $$ H
  iintro H
  iapply (wp_store 𝒱₀ (c : Thread nD τ) none Set.univ (m := M) (r := (Rect.unit (s := S64x32768) ![0, 16384] S64x16384.size inb_S64x32768_S64x16384_0_16384)) (S := M.view.set)
    (f := (M.access (Rect.unit (s := S64x32768) ![0, 0] S64x16384.size inb_S64x32768_S64x16384_0_0)).write (Elt F) f p Finset.univ) ((View.setOn_subset_set _ _).trans (View.set_slice_subset _ _))) $$ H
  iintro H
  iapply Hk
  iexists _
  isplitr
  swap
  · iexact H
  ipureintro
  exact read_halves M f p q

/-- One grid point of the softmax: the block of whole rows from the two blocks of half rows. -/
theorem soft_run (c : Dev nD) (i : grid1.Coords)
    (arg1 : Memref sig .tc .vmem S64x16384 .f32) (harg1 : arg1.IsWhole) (arg2 : Memref sig .tc .vmem S64x16384 .f32) (harg2 : arg2.IsWhole)
    (arg3 : Memref sig .tc .vmem S64x32768 .f32) (harg3 : arg3.IsWhole) (a b : Vec F S64x16384 .f32) (d : S64x32768.Idx → Elt F .f32) (Z : sProp 𝕄) :
    iprop(owns (c : Thread nD τ) arg1 fullShare a ∗ owns (c : Thread nD τ) arg2 fullShare b ∗ owns (c : Thread nD τ) arg3 fullShare d ∗ Z)
      ⊢ wp frame (wpE (defs₀ (F := F)) 𝒱₀ (c : Thread nD τ) none) Set.univ (cc1__softmax_body (F := F) i arg1 harg1 arg2 harg2 arg3 harg3)
          (fun _ => iprop(owns (c : Thread nD τ) arg1 fullShare a ∗ owns (c : Thread nD τ) arg2 fullShare b ∗ owns (c : Thread nD τ) arg3 fullShare (outBlk c a b) ∗ Z)) := by
  simp only [cc1__softmax_body_eq_skeleton]
  unfold cc1__softmax_body_skel
  simp only [Prog.lift, Prog.bind_op, Prog.bind_ret, Prog.pure_eq_ret, wp_deviceId]
  iintro ⟨H1, H2, H3, HZ⟩
  iapply (load_whole c) $$ H1
  iintro H1
  iapply (load_whole c) $$ H2
  iintro H2
  by_cases h : k1_cond1 c = 1#1
  · rw [dif_pos h, dif_neg fun e => (other_branch c).mp e h]
    iapply (store_halves c (k1_pay7 a b) (k1_pay8 a b)) $$ H3
    iintro H3
    rw [wp_ret]
    imodintro
    rw [show outBlk c a b = halves (k1_pay7 a b) (k1_pay8 a b) from if_pos h]
    isplitl [H1]; · iexact H1
    isplitl [H2]; · iexact H2
    isplitl [H3]; · iexact H3
    iexact HZ
  · rw [dif_neg h, dif_pos ((other_branch c).mpr h)]
    iapply (store_halves c (k1_pay8 a b) (k1_pay7 a b)) $$ H3
    iintro H3
    rw [wp_ret]
    imodintro
    rw [show outBlk c a b = halves (k1_pay8 a b) (k1_pay7 a b) from if_neg h]
    isplitl [H1]; · iexact H1
    isplitl [H2]; · iexact H2
    isplitl [H3]; · iexact H3
    iexact HZ

end Cert.KernelIdeal.Exchange

end
-- ==== Proof.IDats.lean ====
/-
  The contents of the buffers between the two regions, and what each grid point of each region finds and leaves.
-/
module

public import proofs.«01_k».proof.Proof.IBody
public import proofs.«01_k».proof.Proof.ISoft
public import proofs.«01_k».proof.Proof.Gen.KernelIdeal.Regions
public import Idealize.ShloMosaic.Lib.Pipeline.ValueKit.Geometry

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat BodyObligation)

/-! ## The buffers' contents -/

/-- Sixty-four rows of a half. -/
def rowsOf (f : S1024x16384.Idx → Elt F .f32) (t : Fin 16) : Vec F S64x16384 .f32 := fun x =>
  f (ix2 ⟨64 * t.val + (x 0).val, by have h0 : (x 0).val < 64 := (x 0).isLt; have := t.isLt; omega⟩ ⟨(x 1).val, (x 1).isLt⟩)

/-- The result on a device: each block of rows from the own product's rows and the partner's. -/
def outv (c : Dev nD) : S1024x32768.Idx → Elt F .f32 := fun i =>
  have h0 : (i 0).val < 1024 := (i 0).isLt
  outBlk c (rowsOf (full m c) ⟨(i 0).val / 64, by omega⟩) (rowsOf (full m (pr c)) ⟨(i 0).val / 64, by omega⟩)
    (ix2 ⟨(i 0).val % 64, Nat.mod_lt _ (by decide)⟩ ⟨(i 1).val, (i 1).isLt⟩)

/-- A device's buffers at the start. -/
abbrev Va (c : Dev nD) : Valuation τ sig (Elt F) := fun b => m (c, b)
/-- A device's buffers between the regions: the own product and the partner's are there. -/
abbrev Vb (c : Dev nD) : Valuation τ sig (Elt F) := Function.update (Function.update (Va m c) main_v1_0 (full m c)) main_v1_1 (full m (pr c))
/-- A device's buffers at the end: the result is there. -/
abbrev Vc (c : Dev nD) : Valuation τ sig (Elt F) := Function.update (Vb m c) main_v2 (outv m c)

theorem Vb_of (c : Dev nD) (r : Ref sig .tc) (h : r ∉ ([main_v1_0, main_v1_1] : List (Ref sig .tc))) : Vb m c r = Va m c r := by
  simp only [Vb, Function.update_of_ne (StableHlo.devRef_ne_of_ne (List.ne_of_not_mem_cons h) : (Proc.devRef .tc r : DevRef τ sig) ≠ Proc.devRef .tc main_v1_0), Function.update_of_ne (StableHlo.devRef_ne_of_ne (List.ne_of_not_mem_cons (List.not_mem_of_not_mem_cons h)) : (Proc.devRef .tc r : DevRef τ sig) ≠ Proc.devRef .tc main_v1_1)]

theorem Vb_left (c : Dev nD) : Vb m c main_v1_0 = full m c := by
  rw [Vb, Function.update_of_ne (StableHlo.devRef_ne_of_ne (by decide) : (Proc.devRef .tc main_v1_0 : DevRef τ sig) ≠ Proc.devRef .tc main_v1_1), Function.update_self]

theorem Vb_right (c : Dev nD) : Vb m c main_v1_1 = full m (pr c) := by rw [Vb, Function.update_self]

theorem Vc_of (c : Dev nD) (r : Ref sig .tc) (h : r ≠ main_v2) : Vc m c r = Vb m c r := by
  rw [Vc, Function.update_of_ne (StableHlo.devRef_ne_of_ne h : (Proc.devRef .tc r : DevRef τ sig) ≠ Proc.devRef .tc main_v2)]

theorem Vc_out (c : Dev nD) : Vc m c main_v2 = outv m c := by rw [Vc, Function.update_self]

/-! ## The exchange's states without what the device owes -/

/-- What a device owes before point n. -/
def due (c : Dev nD) (n : ℕ) : CellTallies nD τ sig Unit := if n = 0 then O₀ c else owed c n

/-- The state before point n, without what the device owes. -/
def quiet (K : GSem nD τ sig → ℕ) (c : Dev nD) (n : ℕ) : sProp 𝕄 :=
  if n = 0 then
    iprop(records m K ∗ levAts L lv
      ∗ (atPos ER (barCell c) 0 ∅ 0 ∗ cred (tallyAt (barCell c) () 1) ∗ reached ER (barCell (pr c)) 0 ∗ dutyTok ER (barCell (pr c)) 0 () ∗ barPay m (pr c))
      ∗ chunks m c 0 0 ∗ unused c 0 ∗ arrivals m c 0)
  else if n = 32 then
    iprop(semVal (barCell c) 0
      ∗ (semVal (slotCell c 0) 0 ∗ semVal (slotCell c 1) 0)
      ∗ (bigSep Finset.univ fun j : Fin 32 => semVal (sendCell c j) 0)
      ∗ (bigSep Finset.univ fun j : Fin 32 => semVal (recvCell c j) 0)
      ∗ (bigSep Finset.univ fun j : Fin 32 => llPts c j (full m c))
      ∗ (bigSep Finset.univ fun j : Fin 32 => lrPts c j (full m (pr c)))
      ∗ ((∃ f, slPts c 0 fullShare f) ∗ (∃ f, slPts c 1 fullShare f)))
  else
    iprop(records m K ∗ levAts L lv ∗ atPos ER (barCell c) 1 ∅ 0
      ∗ chunks m c (n - 2) n ∗ unused c n ∗ targets m c n ∗ arrivals m c 0)

theorem state_of_quiet (K : GSem nD τ sig → ℕ) (c : Dev nD) (n : ℕ) : (iprop(quiet m K c n ∗ owing c (due c n)) : sProp 𝕄) ⊢ state m K c n := by
  unfold quiet state due
  by_cases h0 : n = 0
  · rw [if_pos h0, if_pos h0, if_pos h0]
    unfold entry
    iintro ⟨⟨Ha, Hb, Hc, Hd, He, Hf⟩, HO⟩
    isplitl [Ha]; · iexact Ha
    isplitl [Hb]; · iexact Hb
    isplitl [Hc]; · iexact Hc
    isplitl [Hd]; · iexact Hd
    isplitl [He]; · iexact He
    isplitl [Hf]; · iexact Hf
    iexact HO
  rw [if_neg h0, if_neg h0, if_neg h0]
  by_cases h1 : n = 32
  · rw [if_pos h1, if_pos h1]
    subst h1
    rw [owed_last]
    unfold done
    iintro ⟨⟨Ha, Hb, Hc, Hd, He, Hf, Hg⟩, HO⟩
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    iexact HO
  rw [if_neg h1, if_neg h1]
  unfold mid
  iintro ⟨⟨Ha, Hb, Hc, Hd, He, Hf, Hg⟩, HO⟩
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexact Hg
  iexact HO

theorem quiet_of_state (K : GSem nD τ sig → ℕ) (c : Dev nD) (n : ℕ) : (state m K c n : sProp 𝕄) ⊢ iprop(quiet m K c n ∗ owing c (due c n)) := by
  unfold quiet state due
  by_cases h0 : n = 0
  · rw [if_pos h0, if_pos h0, if_pos h0]
    unfold entry
    iintro ⟨Ha, Hb, Hc, Hd, He, Hf, HO⟩
    isplitr [HO]
    · isplitl [Ha]; · iexact Ha
      isplitl [Hb]; · iexact Hb
      isplitl [Hc]; · iexact Hc
      isplitl [Hd]; · iexact Hd
      isplitl [He]; · iexact He
      iexact Hf
    iexact HO
  rw [if_neg h0, if_neg h0, if_neg h0]
  by_cases h1 : n = 32
  · rw [if_pos h1, if_pos h1]
    subst h1
    rw [owed_last]
    unfold done
    iintro ⟨Ha, Hb, Hc, Hd, He, Hf, Hg, HO⟩
    isplitr [HO]
    · isplitl [Ha]; · iexact Ha
      isplitl [Hb]; · iexact Hb
      isplitl [Hc]; · iexact Hc
      isplitl [Hd]; · iexact Hd
      isplitl [He]; · iexact He
      isplitl [Hf]; · iexact Hf
      iexact Hg
    iexact HO
  rw [if_neg h1, if_neg h1]
  unfold mid
  iintro ⟨Ha, Hb, Hc, Hd, He, Hf, Hg, HO⟩
  isplitr [HO]
  · isplitl [Ha]; · iexact Ha
    isplitl [Hb]; · iexact Hb
    isplitl [Hc]; · iexact Hc
    isplitl [Hd]; · iexact Hd
    isplitl [He]; · iexact He
    isplitl [Hf]; · iexact Hf
    iexact Hg
  iexact HO

/-! ## The first region -/

/-- The point's number as a chunk. -/
def pointOf (t : Fin cfg0.N) : Fin 32 := ⟨t.val, N_0 ▸ t.isLt⟩

theorem coord0 : ∀ t : Fin cfg0.N, (grid0.coords t 0).val = t.val := (by decide +kernel : ∀ t : Fin grid0.N, (grid0.coords t 0).val = t.val)
theorem at_coords (t : Fin cfg0.N) : at_ (grid0.coords t) = pointOf t := Fin.ext (coord0 t)

/-- The second region's staging buffers, at whatever they hold. -/
def spare (c : Dev nD) : sProp 𝕄 :=
  iprop((∃ f : Buf (Elt F) _, ((c : Thread nD τ).loc cc1_stg0_0) ↦{fullShare} f) ∗ (∃ f : Buf (Elt F) _, ((c : Thread nD τ).loc cc1_stg0_1) ↦{fullShare} f)
    ∗ (∃ f : Buf (Elt F) _, ((c : Thread nD τ).loc cc1_stg1_0) ↦{fullShare} f) ∗ (∃ f : Buf (Elt F) _, ((c : Thread nD τ).loc cc1_stg1_1) ↦{fullShare} f)
    ∗ (∃ f : Buf (Elt F) _, ((c : Thread nD τ).loc cc1_stg2_0) ↦{fullShare} f) ∗ (∃ f : Buf (Elt F) _, ((c : Thread nD τ).loc cc1_stg2_1) ↦{fullShare} f))

/-- The first region: the operands stay, the exchange's state advances, what is owed goes down. -/
def dat0 (c : Dev nD) : Dat τ (Elt F) Unit ℕ UU ℕ cfg0 c where
  A w := match w with | ⟨0, _⟩ => m ((c : Thread nD τ).loc main_arg0) | ⟨1, _⟩ => m ((c : Thread nD τ).loc main_arg1)
  after w t := match w with | ⟨0, _⟩ => xOf m c | ⟨1, _⟩ => wBlk m c (pointOf t)
  Φ t := iprop((∃ K, quiet m K c t.val) ∗ spare c ∗ ∃ r, prngReg c r)
  q _ := fullShare
  owed t := due c t.val

/-- The second region: the products stay, the result's block is the softmax of the two halves. -/
def dat1 (c : Dev nD) : Dat τ (Elt F) Unit ℕ UU ℕ cfg1 c where
  A w := match w with | ⟨0, _⟩ => full m c | ⟨1, _⟩ => full m (pr c) | ⟨2, _⟩ => m ((c : Thread nD τ).loc main_v2)
  after w t := match w with
    | ⟨0, _⟩ => rowsOf (full m c) ⟨t.val, N_1 ▸ t.isLt⟩
    | ⟨1, _⟩ => rowsOf (full m (pr c)) ⟨t.val, N_1 ▸ t.isLt⟩
    | ⟨2, _⟩ => outBlk c (rowsOf (full m c) ⟨t.val, N_1 ▸ t.isLt⟩) (rowsOf (full m (pr c)) ⟨t.val, N_1 ▸ t.isLt⟩)
  Φ _ := Pipeline.scopedRest spec1 c
  q _ := fullShare
  owed _ := 0

/-- Both regions. -/
def pdats : (p : Fin 2) → (c : Dev nD) → Dat τ (Elt F) Unit ℕ UU ℕ (Pipeline.pin (pcfgs (F := F)) adm p) c
  | 0 => dat0 m
  | 1 => dat1 m

theorem index0_0 : ∀ t : Fin cfg0.N, win0_0.index t = ![0, 0] := (by decide +kernel : ∀ t : Fin grid0.N, win0_0.index t = ![0, 0])
theorem index0_1 : ∀ t : Fin cfg0.N, win0_1.index t = ![0, t.val] := (by decide +kernel : ∀ t : Fin grid0.N, win0_1.index t = ![0, t.val])
theorem index1_0 : ∀ t : Fin cfg1.N, win1_0.index t = ![t.val, 0] := (by decide +kernel : ∀ t : Fin grid1.N, win1_0.index t = ![t.val, 0])
theorem index1_1 : ∀ t : Fin cfg1.N, win1_1.index t = ![t.val, 0] := (by decide +kernel : ∀ t : Fin grid1.N, win1_1.index t = ![t.val, 0])
theorem index1_2 : ∀ t : Fin cfg1.N, win1_2.index t = ![t.val, 0] := (by decide +kernel : ∀ t : Fin grid1.N, win1_2.index t = ![t.val, 0])

theorem block0_0 (c : Dev nD) (t : Fin cfg0.N) : (dat0 m c).blockOf 0 t = xOf m c := by
  funext y
  show m ((c : Thread nD τ).loc main_arg0) ((win0_0.blk t).view.emb y) = m ((c : Thread nD τ).loc main_arg0) y
  congr 1
  blk_ext [index0_0]

theorem block0_1 (c : Dev nD) (t : Fin cfg0.N) : (dat0 m c).blockOf 1 t = wBlk m c (pointOf t) := by
  funext y
  unfold wBlk
  show m ((c : Thread nD τ).loc main_arg1) ((win0_1.blk t).view.emb y) = m ((c : Thread nD τ).loc main_arg1) _
  congr 1
  blk_ext [index0_1, pointOf]

theorem block1_0 (c : Dev nD) (t : Fin cfg1.N) : (dat1 m c).blockOf 0 t = rowsOf (full m c) ⟨t.val, N_1 ▸ t.isLt⟩ := by
  funext y
  unfold rowsOf
  show full m c ((win1_0.blk t).view.emb y) = full m c _
  congr 1
  blk_ext [index1_0]

theorem block1_1 (c : Dev nD) (t : Fin cfg1.N) : (dat1 m c).blockOf 1 t = rowsOf (full m (pr c)) ⟨t.val, N_1 ▸ t.isLt⟩ := by
  funext y
  unfold rowsOf
  show full m (pr c) ((win1_1.blk t).view.emb y) = full m (pr c) _
  congr 1
  blk_ext [index1_1]

theorem before0_0 (c : Dev nD) (t : Fin cfg0.N) (d) : (dat0 m c).before 0 t d = xOf m c :=
  ((dat0 m c).before_in_eq_fetched 0 rfl (fun _ => rfl) (fun _ _ _ => rfl) (fun t => (block0_0 m c t).symm) t d).trans (block0_0 m c t)
theorem before0_1 (c : Dev nD) (t : Fin cfg0.N) (d) : (dat0 m c).before 1 t d = wBlk m c (pointOf t) :=
  ((dat0 m c).before_in_eq_fetched 1 rfl (fun _ => rfl) (fun _ _ _ => rfl) (fun t => (block0_1 m c t).symm) t d).trans (block0_1 m c t)
theorem before1_0 (c : Dev nD) (t : Fin cfg1.N) (d) : (dat1 m c).before 0 t d = rowsOf (full m c) ⟨t.val, N_1 ▸ t.isLt⟩ :=
  ((dat1 m c).before_in_eq_fetched 0 rfl (fun _ => rfl) (fun _ _ _ => rfl) (fun t => (block1_0 m c t).symm) t d).trans (block1_0 m c t)
theorem before1_1 (c : Dev nD) (t : Fin cfg1.N) (d) : (dat1 m c).before 1 t d = rowsOf (full m (pr c)) ⟨t.val, N_1 ▸ t.isLt⟩ :=
  ((dat1 m c).before_in_eq_fetched 1 rfl (fun _ => rfl) (fun _ _ _ => rfl) (fun t => (block1_1 m c t).symm) t d).trans (block1_1 m c t)

/-! ## The points -/

theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ := by rfl) :
    (owing c O : sProp 𝕄) ⊢ (dat.owesAt () t : sProp 𝕄) := by
  unfold owing Dat.owesAt Pipeline.owesWithin Dat.bound
  rw [h0, hr]
  iintro ⟨%W, HO⟩
  iexists W
  isplitr
  · ipureintro; exact fun _ _ => Or.inl trivial
  iexact HO

theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ (owing c O : sProp 𝕄) := by
  unfold owing Dat.owesAt Pipeline.owesWithin
  rw [h0]
  iintro ⟨%W, -, HO⟩
  iexists W
  iexact HO

/-- Each point of the first region. -/
theorem body0 (c : Dev nD) : BodyObligation (dat0 m c) defs₀ 𝒱₀ () Set.univ := fun t => by
  rw [bigSep_W0, bigSep_W0]
  rw [show (dat0 m c).Φ t.castSucc = iprop((∃ K, quiet m K c t.val) ∗ spare c ∗ ∃ r, prngReg c r) from rfl,
    show (dat0 m c).Φ t.succ = iprop((∃ K, quiet m K c (t.val + 1)) ∗ spare c ∗ ∃ r, prngReg c r) from rfl]
  have hb : ∀ K : GSem nD τ sig → ℕ, _ := fun K => body_run m K c (grid0.coords t) (win0_0.stage (cfg0.slots t 0)) (hstage0_0 ((cfg0.slots t 0).cast nbuf0_0))
    (win0_1.stage (cfg0.slots t 1)) (hstage0_1 ((cfg0.slots t 1).cast nbuf0_1)) (iprop(spare c ∗ ∃ r, prngReg c r))
  rw [at_coords, coord0] at hb
  have hpost : ∀ (K : GSem nD τ sig → ℕ) (P₀ P₁ : sProp 𝕄),
      (iprop(state m K c (t.val + 1) ∗ P₀ ∗ P₁ ∗ spare c ∗ ∃ r, prngReg c r) : sProp 𝕄)
        ⊢ iprop(((∃ K, quiet m K c (t.val + 1)) ∗ spare c ∗ ∃ r, prngReg c r) ∗ (dat0 m c).owesAt () t.succ ∗ P₀ ∗ P₁) := fun K P₀ P₁ => by
    iintro ⟨Hst, H0, H1, Hsp, Hr⟩
    ihave Hst := (quiet_of_state m K c (t.val + 1)) $$ Hst
    icases Hst with ⟨Hq, HO⟩
    isplitl [Hq Hsp Hr]
    · isplitl [Hq]; · iexists K; iexact Hq
      isplitl [Hsp]; · iexact Hsp
      iexact Hr
    isplitl [HO]; · iapply (owesAt_intro (dat0 m c) t.succ (due c (t.val + 1)) rfl); iexact HO
    isplitl [H0]; · iexact H0
    iexact H1
  iintro ⟨⟨⟨%K, Hq⟩, Hsp, Hr⟩, HO, ⟨%d0, H0⟩, ⟨%d1, H1⟩⟩
  ihave HO := (owesAt_elim (dat0 m c) t.castSucc (due c t.val) rfl) $$ HO
  ihave Hst := (state_of_quiet m K c t.val) $$ [Hq HO]
  · isplitl [Hq]; · iexact Hq
    iexact HO
  ihave H0 := (Entails.of_eq (congrArg (fun f => (owns (c : Thread nD τ) (win0_0.stage (cfg0.slots t 0)) fullShare f : sProp 𝕄)) (before0_0 m c t d0))) $$ H0
  ihave H1 := (Entails.of_eq (congrArg (fun f => (owns (c : Thread nD τ) (win0_1.stage (cfg0.slots t 1)) fullShare f : sProp 𝕄)) (before0_1 m c t d1))) $$ H1
  iapply ((hb K).trans (wp_mono _ _ _ fun _ => hpost K _ _))
  isplitl [Hst]; · iexact Hst
  isplitl [H0]; · iexact H0
  isplitl [H1]; · iexact H1
  isplitl [Hsp]; · iexact Hsp
  iexact Hr

/-- Each point of the second region. -/
theorem body1 (c : Dev nD) : BodyObligation (dat1 m c) defs₀ 𝒱₀ () Set.univ := fun t => by
  rw [bigSep_W1, bigSep_W1]
  rw [show (dat1 m c).Φ t.castSucc = (Pipeline.scopedRest spec1 c : sProp 𝕄) from rfl,
    show (dat1 m c).Φ t.succ = (Pipeline.scopedRest spec1 c : sProp 𝕄) from rfl]
  have hb : ∀ d, _ := fun d => soft_run c (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (rowsOf (full m c) ⟨t.val, N_1 ▸ t.isLt⟩) (rowsOf (full m (pr c)) ⟨t.val, N_1 ▸ t.isLt⟩) d (iprop(Pipeline.scopedRest spec1 c ∗ (dat1 m c).owesAt () t.succ))
  have hpost : ∀ (P₀ P₁ P₂ R O : sProp 𝕄), (iprop(P₀ ∗ P₁ ∗ P₂ ∗ R ∗ O) : sProp 𝕄) ⊢ iprop(R ∗ O ∗ P₀ ∗ P₁ ∗ P₂) := fun P₀ P₁ P₂ R O => by
    iintro ⟨H0, H1, H2, Hr, HO⟩
    isplitl [Hr]; · iexact Hr
    isplitl [HO]; · iexact HO
    isplitl [H0]; · iexact H0
    isplitl [H1]; · iexact H1
    iexact H2
  iintro ⟨Hr, HO, ⟨%d0, H0⟩, ⟨%d1, H1⟩, ⟨%d2, H2⟩⟩
  ihave H0 := (Entails.of_eq (congrArg (fun f => (owns (c : Thread nD τ) (win1_0.stage (cfg1.slots t 0)) fullShare f : sProp 𝕄)) (before1_0 m c t d0))) $$ H0
  ihave H1 := (Entails.of_eq (congrArg (fun f => (owns (c : Thread nD τ) (win1_1.stage (cfg1.slots t 1)) fullShare f : sProp 𝕄)) (before1_1 m c t d1))) $$ H1
  iapply ((hb _).trans (wp_mono _ _ _ fun _ => hpost _ _ _ _ _))
  isplitl [H0]; · iexact H0
  isplitl [H1]; · iexact H1
  isplitl [H2]; · iexact H2
  isplitl [Hr]; · iexact Hr
  iexact HO

end Cert.KernelIdeal.Exchange

end
-- ==== Proof.Softmax.lean ====
/-
  Softmax of a row over the extended reals: with the row whole, and with the row in two halves.
-/
module

public import Idealize.ShloMosaic.PureOps.Ideal
public import Mathlib.Data.Finset.Lattice.Fold
public import Mathlib.Data.Fintype.BigOperators
public import Mathlib.Algebra.BigOperators.Fin

@[expose] public section

noncomputable section

namespace Cert.Softmax

open Idealize.ShloMosaic

/-- The largest entry of a row. -/
def top {n : ℕ} (f : Fin n → EReal) : EReal := Finset.univ.fold max ⊥ f

theorem top_eq_sup {n : ℕ} (f : Fin n → EReal) : top f = Finset.univ.sup f := rfl

/-- The quotient: the exponential of an entry less the row's largest, over the sum of the row's. -/
def whole {n : ℕ} (l : Fin n → EReal) (u : EReal) : EReal :=
  Ideal.div (Ideal.exp (u - top l)) (∑ k, Ideal.exp (l k - top l))

/-- The product with a reciprocal, the largest and the sum taken half by half. -/
def split {n : ℕ} (a b : Fin n → EReal) (u : EReal) : EReal :=
  Ideal.exp (u - max (top a) (top b))
    * Ideal.div 1 ((∑ k, Ideal.exp (a k - max (top a) (top b))) + ∑ k, Ideal.exp (b k - max (top a) (top b)))

/-- The halves may be exchanged. -/
theorem split_comm {n : ℕ} (a b : Fin n → EReal) (u : EReal) : split a b u = split b a u := by
  unfold split
  rw [max_comm (top a) (top b), add_comm (∑ k, Ideal.exp (a k - max (top b) (top a)))]

/-- The largest entry of a row is the larger of its halves' largest. -/
theorem top_halves {n : ℕ} (l : Fin (n + n) → EReal) :
    top l = max (top fun j => l (Fin.castAdd n j)) (top fun j => l (Fin.natAdd n j)) := by
  simp only [top_eq_sup]
  refine le_antisymm (Finset.sup_le fun j _ => ?_) (max_le (Finset.sup_le fun j _ => ?_) (Finset.sup_le fun j _ => ?_))
  · refine Fin.addCases (fun i => ?_) (fun i => ?_) j
    · exact le_max_of_le_left (Finset.le_sup (f := fun j => l (Fin.castAdd n j)) (Finset.mem_univ i))
    · exact le_max_of_le_right (Finset.le_sup (f := fun j => l (Fin.natAdd n j)) (Finset.mem_univ i))
  · exact Finset.le_sup (f := l) (Finset.mem_univ (Fin.castAdd n j))
  · exact Finset.le_sup (f := l) (Finset.mem_univ (Fin.natAdd n j))

/-- The largest of finitely many real entries is one of them. -/
theorem top_real {n : ℕ} (g : Fin (n + 1) → ℝ) : ∃ M : ℝ, top (fun k => (g k : EReal)) = M := by
  obtain ⟨i, _, h⟩ := Finset.exists_mem_eq_sup Finset.univ Finset.univ_nonempty fun k => (g k : EReal)
  exact ⟨g i, h⟩

/-- A finite sum of real entries is real. -/
theorem sum_real {ι : Type} (s : Finset ι) (g : ι → ℝ) : ∑ k ∈ s, (g k : EReal) = ((∑ k ∈ s, g k : ℝ) : EReal) := by
  classical
  induction s using Finset.induction_on with
  | empty => simp
  | insert a s ha ih => rw [Finset.sum_insert ha, Finset.sum_insert ha, ih, EReal.coe_add]

/-- The exponentials of a row of real entries, less its largest, add up to a positive real number. -/
theorem sum_exp_real {n : ℕ} (g : Fin (n + 1) → ℝ) :
    ∃ S : ℝ, 0 < S ∧ ∑ k, Ideal.exp ((g k : EReal) - top fun k => (g k : EReal)) = S := by
  obtain ⟨M, hM⟩ := top_real g
  refine ⟨∑ k, Real.exp (g k - M), Finset.sum_pos (fun k _ => Real.exp_pos _) Finset.univ_nonempty, ?_⟩
  rw [hM, ← sum_real]
  refine Finset.sum_congr rfl fun k _ => ?_
  rw [← EReal.coe_sub, Ideal.exp_coe]

/-- **Of a row of real entries the two agree**: the sum is a positive real number, by which dividing is multiplying by its reciprocal. -/
theorem split_eq_whole {n : ℕ} (g : Fin (n + 1 + (n + 1)) → ℝ) (u : EReal) :
    split (fun j => (g (Fin.castAdd (n + 1) j) : EReal)) (fun j => (g (Fin.natAdd (n + 1) j) : EReal)) u = whole (fun k => (g k : EReal)) u := by
  unfold split whole
  rw [← top_halves fun k => (g k : EReal), ← Fin.sum_univ_add fun k => Ideal.exp ((g k : EReal) - top fun k => (g k : EReal))]
  obtain ⟨S, hS, h⟩ := sum_exp_real (n := n + 1 + n) g
  have h' : ∑ k : Fin (n + 1 + (n + 1)), Ideal.exp ((g k : EReal) - top fun k => (g k : EReal)) = S := h
  rw [h', Ideal.div_coe hS.ne', Ideal.div_coe hS.ne', one_mul]

/-- The largest entry of a row of infinite entries is infinite, so each exponential is zero. -/
theorem exp_infinite {n : ℕ} : Ideal.exp (⊤ - top fun _ : Fin (n + 1) => (⊤ : EReal)) = 0 := by
  rw [top_eq_sup, Finset.sup_const Finset.univ_nonempty, EReal.sub_top, Ideal.exp_bot]

/-- **The condition is needed**: of a row of infinite entries the two differ, the quotient being of zero by zero. -/
theorem split_ne_whole {n : ℕ} :
    split (fun _ : Fin (n + 1) => (⊤ : EReal)) (fun _ => ⊤) ⊤ ≠ whole (fun _ : Fin (n + 1 + (n + 1)) => (⊤ : EReal)) ⊤ := by
  have e : whole (fun _ : Fin (n + 1 + (n + 1)) => (⊤ : EReal)) ⊤ = ⊥ := by
    unfold whole
    have h : Ideal.exp (⊤ - top fun _ : Fin (n + 1 + (n + 1)) => (⊤ : EReal)) = 0 := exp_infinite (n := n + 1 + n)
    simp only [h, Finset.sum_const_zero]
    simp [Ideal.div]
  have e' : split (fun _ : Fin (n + 1) => (⊤ : EReal)) (fun _ => ⊤) ⊤ = 0 := by
    unfold split
    rw [max_self, exp_infinite, zero_mul]
  rw [e, e']
  exact EReal.zero_ne_bot

end Cert.Softmax

end
-- ==== Proof.IValue.lean ====
/-
  What the kernel's vector operations compute at an index, at the extended reals: a product's entry, and a row's softmax from its two halves.
-/
module

public import proofs.«01_k».proof.Proof.IDats
public import proofs.«01_k».proof.Proof.Softmax
public import Idealize.ShloMosaic.Lib.Pointwise

@[expose] public section

set_option maxRecDepth 16384

noncomputable section

namespace Cert.KernelIdeal.Exchange

open Cert.KernelIdeal Cert.KernelIdeal.Gen

open Idealize.ShloMosaic
open Idealize.ShloMosaic.TcCoe

/-- The pattern a maximum starts from is the least extended real. -/
theorem least : Ideal.ofBits .f32 0xFF800000#32 = ⊥ := by simp [Ideal.ofBits, Ideal.ieee]

/-- A chunk's entry: the sum of the products along a row of the left operand and a column of the right one's block. -/
theorem chunk_at (x : FVec Ideal S1024x2048 .f32) (w : FVec Ideal S2048x512 .f32) (r : Fin 1024) (l : Fin 512) :
    k0_pay1 (F := Ideal) x w (ix3 0 r l) = ∑ k : Fin 2048, x (ix2 r k) * w (ix2 k l) := by
  pointwise [k0_pay1]

/-- The first half of the softmax's rows, at an index. -/
theorem first_at (a b : FVec Ideal S64x16384 .f32) (r : Fin 64) (l : Fin 16384) :
    k1_pay7 (F := Ideal) a b (ix2 r l) = Softmax.split (fun j => a (ix2 r j)) (fun j => b (ix2 r j)) (a (ix2 r l)) := by
  pointwise [k1_pay7, k1_pay6, k1_pay5, k1_pay4, k1_pay3, k1_pay2, k1_pay1]
  rw [least]
  rfl

/-- The second half of the softmax's rows, at an index. -/
theorem second_at (a b : FVec Ideal S64x16384 .f32) (r : Fin 64) (l : Fin 16384) :
    k1_pay8 (F := Ideal) a b (ix2 r l) = Softmax.split (fun j => a (ix2 r j)) (fun j => b (ix2 r j)) (b (ix2 r l)) := by
  pointwise [k1_pay8, k1_pay6, k1_pay5, k1_pay4, k1_pay3, k1_pay2, k1_pay1]
  rw [least]
  rfl

end Cert.KernelIdeal.Exchange

end
-- ==== Proof.Reference.lean ====
/-
  The reference at an index, at the extended reals: the softmax of a row of the product.
-/
module

public import proofs.«01_k».proof.Proof.Gen.ReferenceIdeal.Read
public import proofs.«01_k».proof.Proof.Softmax
public import Idealize.ShloMosaic.Lib.Pointwise

@[expose] public section

set_option maxRecDepth 16384

noncomputable section

namespace Cert.ReferenceIdeal.Rows

open Cert.ReferenceIdeal Cert.ReferenceIdeal.Gen Cert.ReferenceIdeal.Read

open Idealize.ShloMosaic

/-- An entry of the product of the whole operands. -/
def logit (x : S1024x2048.Idx → EReal) (w : S2048x32768.Idx → EReal) (r : Fin 1024) (j : Fin 32768) : EReal :=
  ∑ k : Fin 2048, x (ix2 r k) * w (ix2 k j)

/-- **The reference's entry is its row's softmax.** -/
theorem result_at (x : FVec Ideal S1024x2048 .f32) (w : FVec Ideal S2048x32768 .f32) (r : Fin 1024) (j : Fin 32768) :
    val_main_v9 (F := Ideal) x w (ix2 r j) = Softmax.whole (logit x w r) (logit x w r j) := by
  pointwise [val_main_v9, val_main_v8, val_main_v7, val_main_v6, val_main_v5, val_main_v4, val_main_v3, val_main_v2, val_main_v1, val_main_v0, val_main_cst, val_main_cst_0]
  rw [show Ideal.ofBits .f32 0xFF800000#32 = ⊥ by simp [Ideal.ofBits, Ideal.ieee]]
  rfl

end Cert.ReferenceIdeal.Rows

end
-- ==== Proof.Equation.lean ====
/-
  The kernel's result and the reference's are the same array, on operands of real entries.
-/
module

public import proofs.«01_k».proof.Proof.IValue
public import proofs.«01_k».proof.Proof.Reference
public import Idealize.ShloMosaic.Lib.Layout

@[expose] public section

set_option maxRecDepth 16384

noncomputable section

namespace Cert.KernelIdeal.Exchange

open Cert.KernelIdeal Cert.KernelIdeal.Gen

open Idealize.ShloMosaic
open Idealize.ShloMosaic.TcCoe
open Cert.ReferenceIdeal.Rows (logit)

/-! ## Which columns a device holds -/

/-- The device's place along the mesh's first axis: the half of the columns it holds. -/
def side (c : Dev nD) : ℕ := c.val / 16

theorem side_lt : ∀ c : Dev nD, side c < 2 := by decide

/-- The partner holds the other half. -/
theorem side_pr : ∀ c : Dev nD, side (pr c) = 1 - side c := by decide

/-- The body takes the first branch where the device holds the left half. -/
theorem left_branch : ∀ c : Dev nD, k1_cond1 c = 1#1 ↔ side c = 0 := by decide +kernel

/-- The block the layout names is the device's half. -/
theorem block_side : ∀ c : Dev nD, Layout.meshLin [2, 4, 4] c.val [0] = side c := by decide

/-- Column l of a half, in the whole. -/
def col (s : ℕ) (hs : s < 2) (l : Fin 16384) : Fin 32768 := ⟨s * 16384 + l.val, by have := l.isLt; omega⟩

/-- The right operand's half on a device, at an index. -/
theorem half_at (c : Dev nD) (w : Cert.ReferenceIdeal.S2048x32768.Idx → EReal) (k : Fin 2048) (l : Fin 16384) :
    (Layout.blockN ⟨2, ![2048, 16384]⟩ ⟨2, ![2048, 32768]⟩ (Layout.meshBlock [2, 4, 4] ![[], [0]] c) w : S2048x16384.Idx → EReal) (ix2 k l) = w (ix2 k (col (side c) (side_lt c) l)) := by
  rw [Layout.blockN_apply]
  refine congrArg w (funext fun b => Fin.ext ?_)
  match b with
  | ⟨0, _⟩ => exact (congrArg (fun s => s + k.val) (Nat.zero_mul 2048)).trans (Nat.zero_add k.val)
  | ⟨1, _⟩ => exact congrArg (fun s => s * 16384 + l.val) (block_side c)

/-! ## The product's entries -/

variable (m : (ℓ : Loc nD τ sig) → Buf (Elt Ideal) ℓ)

/-- The operands as the layout gives them to the devices: the left one whole on each, of the right one its half. -/
def Given (x : FVec Ideal S1024x2048 .f32) (w : FVec Ideal Cert.ReferenceIdeal.S2048x32768 .f32) : Prop :=
  ∀ c : Dev nD, xOf m c = x ∧ ∀ (k : Fin 2048) (l : Fin 16384),
    m ((c : Thread nD τ).loc main_arg1) (ix2 k l : S2048x16384.Idx) = w (ix2 k (col (side c) (side_lt c) l))

variable {m} {x : FVec Ideal S1024x2048 .f32} {w : FVec Ideal Cert.ReferenceIdeal.S2048x32768 .f32}

/-- A device's product is the whole product's half. -/
theorem full_at (h : Given m x w) (c : Dev nD) (r : Fin 1024) (l : Fin 16384) :
    full m c (ix2 r l) = logit x w r (col (side c) (side_lt c) l) := by
  refine (chunk_at (xOf m c) (wBlk m c ⟨l.val / 512, by have := l.isLt; omega⟩) r ⟨l.val % 512, Nat.mod_lt _ (by decide)⟩).trans ?_
  refine Finset.sum_congr rfl fun k _ => ?_
  rw [(h c).1, ← (h c).2 k l]
  refine congrArg (fun i : S2048x16384.Idx => x (ix2 r k) * m ((c : Thread nD τ).loc main_arg1) i) ?_
  exact congrArg (ix2 k) (Fin.ext (Nat.div_add_mod l.val 512))

/-- Sixty-four of its rows. -/
theorem rows_at (h : Given m x w) (c : Dev nD) (t : Fin 16) (r : Fin 64) (l : Fin 16384) (q : Fin 1024) (hq : q.val = 64 * t.val + r.val) :
    rowsOf (full m c) t (ix2 r l) = logit x w q (col (side c) (side_lt c) l) := by
  rw [← full_at h c q l]
  exact congrArg (fun p : Fin 1024 => full m c (ix2 p l)) (Fin.ext hq.symm)

/-! ## The softmax -/

/-- The entries of a product of real operands are real. -/
theorem logit_real (hx : ∀ i, x i = (((x i).toReal : ℝ) : EReal)) (hw : ∀ i, w i = (((w i).toReal : ℝ) : EReal)) (r : Fin 1024) :
    ∃ g : Fin 32768 → ℝ, logit x w r = fun j => (g j : EReal) := by
  refine ⟨fun j => ∑ k : Fin 2048, (x (ix2 r k)).toReal * (w (ix2 k j)).toReal, funext fun j => ?_⟩
  rw [← Softmax.sum_real]
  refine Finset.sum_congr rfl fun k _ => ?_
  rw [EReal.coe_mul, ← hx, ← hw]

/-- Softmax from the halves, the left one first, is softmax of the whole row. -/
theorem left_right (hx : ∀ i, x i = (((x i).toReal : ℝ) : EReal)) (hw : ∀ i, w i = (((w i).toReal : ℝ) : EReal)) (r : Fin 1024) (u : EReal) :
    Softmax.split (fun l => logit x w r (col 0 (by decide) l)) (fun l => logit x w r (col 1 (by decide) l)) u = Softmax.whole (logit x w r) u := by
  obtain ⟨g, hg⟩ := logit_real hx hw r
  rw [hg, ← Softmax.split_eq_whole (n := 16383) g u]
  have e₀ : (fun l : Fin 16384 => ((g (col 0 (by decide) l) : ℝ) : EReal)) = fun l : Fin (16383 + 1) => ((g (Fin.castAdd (16383 + 1) l) : ℝ) : EReal) :=
    funext fun l => congrArg (fun j : Fin 32768 => ((g j : ℝ) : EReal)) (Fin.ext (show 0 * 16384 + l.val = l.val by omega))
  have e₁ : (fun l : Fin 16384 => ((g (col 1 (by decide) l) : ℝ) : EReal)) = fun l : Fin (16383 + 1) => ((g (Fin.natAdd (16383 + 1) l) : ℝ) : EReal) :=
    funext fun l => congrArg (fun j : Fin 32768 => ((g j : ℝ) : EReal)) (Fin.ext (show 1 * 16384 + l.val = 16383 + 1 + l.val by omega))
  exact congrArg₂ (fun a b => Softmax.split a b u) e₀ e₁

/-- Whichever half the device holds: softmax from its own half and its partner's. -/
theorem own_other (hx : ∀ i, x i = (((x i).toReal : ℝ) : EReal)) (hw : ∀ i, w i = (((w i).toReal : ℝ) : EReal)) (r : Fin 1024) (u : EReal)
    (s s' : ℕ) (hs : s < 2) (hs' : s' < 2) (e : s' = 1 - s) :
    Softmax.split (fun l => logit x w r (col s hs l)) (fun l => logit x w r (col s' hs' l)) u = Softmax.whole (logit x w r) u := by
  subst e
  obtain rfl | rfl : s = 0 ∨ s = 1 := by omega
  · exact left_right hx hw r u
  · rw [Softmax.split_comm]; exact left_right hx hw r u

/-! ## The result -/

/-- Two halves side by side, at an index of the left one, -/
theorem halves_left (p q : S64x16384.Idx → EReal) (r : Fin 64) (j : Fin 32768) (l : Fin 16384) (h : j = col 0 (by decide) l) :
    halves (F := Ideal) p q (ix2 r j) = p (ix2 r l) := by
  have e : j.val = l.val := by rw [h]; show 0 * 16384 + l.val = l.val; omega
  have hl : j.val < 16384 := by have := l.isLt; omega
  refine (dif_pos hl).trans ?_
  exact congrArg (fun y : Fin 16384 => p (ix2 r y)) (Fin.ext e)

/-- and at one of the right one. -/
theorem halves_right (p q : S64x16384.Idx → EReal) (r : Fin 64) (j : Fin 32768) (l : Fin 16384) (h : j = col 1 (by decide) l) :
    halves (F := Ideal) p q (ix2 r j) = q (ix2 r l) := by
  have e : j.val = 16384 + l.val := by rw [h]; show 1 * 16384 + l.val = 16384 + l.val; omega
  have hl : ¬ j.val < 16384 := by omega
  refine (dif_neg hl).trans ?_
  exact congrArg (fun y : Fin 16384 => q (ix2 r y)) (Fin.ext (show j.val - 16384 = l.val by omega))

/-- A column of the whole is a column of one of the halves. -/
theorem col_cases (j : Fin 32768) : (∃ l, j = col 0 (by decide) l) ∨ ∃ l, j = col 1 (by decide) l := by
  have hj := j.isLt
  by_cases h : j.val < 16384
  · exact .inl ⟨⟨j.val, h⟩, Fin.ext (show j.val = 0 * 16384 + j.val by omega)⟩
  · exact .inr ⟨⟨j.val - 16384, by omega⟩, Fin.ext (show j.val = 1 * 16384 + (j.val - 16384) by omega)⟩

/-- A block of the result from two blocks of rows: each entry the softmax of its row, the device's own half on its own side. -/
theorem outBlk_at (c : Dev nD) (a b : FVec Ideal S64x16384 .f32) (r : Fin 64) (j : Fin 32768) (f : Fin 32768 → EReal)
    (ha : ∀ l, a (ix2 r l) = f (col (side c) (side_lt c) l)) (hb : ∀ l, b (ix2 r l) = f (col (side (pr c)) (side_lt (pr c)) l)) :
    outBlk (F := Ideal) c a b (ix2 r j)
      = Softmax.split (fun l => f (col (side c) (side_lt c) l)) (fun l => f (col (side (pr c)) (side_lt (pr c)) l)) (f j) := by
  have ea : (fun l => a (ix2 r l)) = fun l => f (col (side c) (side_lt c) l) := funext ha
  have eb : (fun l => b (ix2 r l)) = fun l => f (col (side (pr c)) (side_lt (pr c)) l) := funext hb
  have p7 : ∀ l, k1_pay7 (F := Ideal) a b (ix2 r l) = Softmax.split (fun l => f (col (side c) (side_lt c) l)) (fun l => f (col (side (pr c)) (side_lt (pr c)) l)) (f (col (side c) (side_lt c) l)) :=
    fun l => by rw [first_at, ea, eb, ha]
  have p8 : ∀ l, k1_pay8 (F := Ideal) a b (ix2 r l) = Softmax.split (fun l => f (col (side c) (side_lt c) l)) (fun l => f (col (side (pr c)) (side_lt (pr c)) l)) (f (col (side (pr c)) (side_lt (pr c)) l)) :=
    fun l => by rw [second_at, ea, eb, hb]
  have hp := side_pr c
  have hc := side_lt c
  unfold outBlk
  by_cases h : k1_cond1 c = 1#1
  · rw [if_pos h]
    have h0 : side c = 0 := (left_branch c).1 h
    obtain ⟨l, hl⟩ | ⟨l, hl⟩ := col_cases j
    · rw [halves_left _ _ r j l hl, p7]
      exact congrArg (fun y => Softmax.split _ _ (f y)) (Fin.ext (by rw [hl]; show side c * 16384 + l.val = 0 * 16384 + l.val; rw [h0]))
    · rw [halves_right _ _ r j l hl, p8]
      exact congrArg (fun y => Softmax.split _ _ (f y)) (Fin.ext (by rw [hl]; show side (pr c) * 16384 + l.val = 1 * 16384 + l.val; rw [hp, h0]))
  · rw [if_neg h]
    have h0 : side c = 1 := by have := mt (left_branch c).2 h; omega
    obtain ⟨l, hl⟩ | ⟨l, hl⟩ := col_cases j
    · rw [halves_left _ _ r j l hl, p8]
      exact congrArg (fun y => Softmax.split _ _ (f y)) (Fin.ext (by rw [hl]; show side (pr c) * 16384 + l.val = 0 * 16384 + l.val; rw [hp, h0]))
    · rw [halves_right _ _ r j l hl, p7]
      exact congrArg (fun y => Softmax.split _ _ (f y)) (Fin.ext (by rw [hl]; show side c * 16384 + l.val = 1 * 16384 + l.val; rw [h0]))

/-- **The result on every device is the reference's**, on operands of real entries. -/
theorem result (h : Given m x w) (hx : ∀ i, x i = (((x i).toReal : ℝ) : EReal)) (hw : ∀ i, w i = (((w i).toReal : ℝ) : EReal)) (c : Dev nD) :
    outv m c = Cert.ReferenceIdeal.Read.val_main_v9 (F := Ideal) x w := by
  funext i
  obtain ⟨r, j, rfl⟩ : ∃ (r : Fin 1024) (j : Fin 32768), i = ix2 r j := ⟨i 0, i 1, funext fun b => by match b with | ⟨0, _⟩ => rfl | ⟨1, _⟩ => rfl⟩
  have hr := r.isLt
  refine Eq.trans ?_ (Cert.ReferenceIdeal.Rows.result_at x w r j).symm
  refine (outBlk_at c (rowsOf (full m c) ⟨r.val / 64, by omega⟩) (rowsOf (full m (pr c)) ⟨r.val / 64, by omega⟩)
    ⟨r.val % 64, Nat.mod_lt _ (by decide)⟩ j (logit x w r)
    (fun l => rows_at h c _ _ l r (Nat.div_add_mod r.val 64).symm) (fun l => rows_at h (pr c) _ _ l r (Nat.div_add_mod r.val 64).symm)).trans ?_
  exact own_other hx hw r _ _ _ _ _ (side_pr c)

/-- Operands whose parts on the devices have real entries have real entries. -/
theorem real_of_parts (h : Given m x w) (hl : ∀ c i, xOf m c i = (((xOf m c i).toReal : ℝ) : EReal))
    (hr : ∀ (c : Dev nD) (i : S2048x16384.Idx), (m ((c : Thread nD τ).loc main_arg1) i : EReal) = ((EReal.toReal (m ((c : Thread nD τ).loc main_arg1) i) : ℝ) : EReal)) :
    (∀ i, x i = (((x i).toReal : ℝ) : EReal)) ∧ ∀ i, w i = (((w i).toReal : ℝ) : EReal) := by
  have hcol : ∀ (c : Dev nD) (k : Fin 2048) (j : Fin 32768) (l : Fin 16384), j = col (side c) (side_lt c) l → w (ix2 k j) = (((w (ix2 k j)).toReal : ℝ) : EReal) := by
    intro c k j l e
    have e' := hr c (ix2 k l)
    rw [(h c).2 k l, ← e] at e'
    exact e'
  refine ⟨fun i => ?_, fun i => ?_⟩
  · have e := hl 0 i
    rw [(h 0).1] at e
    exact e
  · obtain ⟨k, j, rfl⟩ : ∃ (k : Fin 2048) (j : Fin 32768), i = ix2 k j := ⟨i 0, i 1, funext fun b => by match b with | ⟨0, _⟩ => rfl | ⟨1, _⟩ => rfl⟩
    obtain ⟨l, e⟩ | ⟨l, e⟩ := col_cases j
    · exact hcol (0 : Fin 32) k j l e
    · exact hcol (16 : Fin 32) k j l e

end Cert.KernelIdeal.Exchange

end
-- ==== Proof.Finite.lean ====
/-
  What the claim's condition says: every entry of both operands is a real number.
-/
module

public import proofs.«01_k».proof.Defs
public import proofs.«01_k».proof.Proof.Gen.KernelIdeal
public import Idealize.ShloMosaic.Lib.Pointwise

@[expose] public section

set_option maxRecDepth 16384

noncomputable section

namespace Cert.Finite

open Idealize.ShloMosaic

/-- The condition's side conditions: a scalar is broadcast to each operand's shape. -/
instance kernelFacts : Cert.Pre_finite_KernelIdeal.Facts := ⟨by decide, by decide⟩

/-- The same at the shapes of the whole operands. -/
instance referenceFacts : Cert.Pre_finite_ReferenceIdeal.Facts := ⟨by decide, by decide⟩

/-- An extended real whose absolute value is below infinity is a real number. -/
theorem real_of_abs_lt {e : EReal} (h : max e (-e) < ⊤) : e = ((e.toReal : ℝ) : EReal) := by
  refine (EReal.coe_toReal (fun e' => ?_) fun e' => ?_).symm
  · subst e'; exact absurd h (by simp)
  · subst e'; exact absurd h (by simp)

/-- The pattern the condition compares with is the greatest extended real. -/
theorem greatest : Ideal.ofBits .f32 0x7F800000#32 = ⊤ := by simp [Ideal.ofBits, Ideal.ieee]

/-- A comparison that holds is the order's. -/
theorem lt_of_cmp {a b : EReal} (h : Ideal.cmp .olt a b = 1#1) : a < b := by
  by_contra hn
  simp [Ideal.cmp, hn] at h

/-- Where the condition holds, the left operand's entries are real numbers, -/
theorem left_real {x : FVec Ideal Cert.Pre_finite_KernelIdeal.S1024x2048 .f32} {w : FVec Ideal Cert.Pre_finite_KernelIdeal.S2048x16384 .f32}
    (h : (Cert.Pre_finite_KernelIdeal.fn (F := Ideal) x w).1 = fun _ => 1#1) (i : Cert.Pre_finite_KernelIdeal.S1024x2048.Idx) :
    x i = (((x i).toReal : ℝ) : EReal) := by
  have e := congrFun h i
  have e' : Ideal.cmp .olt (max (x i) (-(x i))) (Ideal.ofBits .f32 0x7F800000#32) = 1#1 := e
  rw [greatest] at e'
  exact real_of_abs_lt (lt_of_cmp e')

/-- and so are the right operand's. -/
theorem right_real {x : FVec Ideal Cert.Pre_finite_KernelIdeal.S1024x2048 .f32} {w : FVec Ideal Cert.Pre_finite_KernelIdeal.S2048x16384 .f32}
    (h : (Cert.Pre_finite_KernelIdeal.fn (F := Ideal) x w).2 = fun _ => 1#1) (i : Cert.Pre_finite_KernelIdeal.S2048x16384.Idx) :
    w i = (((w i).toReal : ℝ) : EReal) := by
  have e := congrFun h i
  have e' : Ideal.cmp .olt (max (w i) (-(w i))) (Ideal.ofBits .f32 0x7F800000#32) = 1#1 := e
  rw [greatest] at e'
  exact real_of_abs_lt (lt_of_cmp e')

end Cert.Finite

end
-- ==== Proof.IRegion0.lean ====
/-
  The first region: entered from what the launch deals to each device, left with both halves of the product.
-/
module

public import proofs.«01_k».proof.Proof.IDats
public import Idealize.ShloMosaic.Lib.Pipeline.RegionTalk
public import Idealize.ShloMosaic.Lib.Rounds.Family

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat)

/-! ## The exchange's own semaphores -/

/-- The semaphores of the first region that are its own. -/
def oneSem : Fin 2 ⊕ Fin 32 ⊕ Fin 32 → SemLoc sig
  | .inl s => .dma (slotS s)
  | .inr (.inl j) => .dma (sendS j)
  | .inr (.inr j) => .dma (recvS j)

theorem scCell_eq (c : Dev nD) (i : Fin 2 ⊕ Fin 32 ⊕ Fin 32) : scCell (c, i) = ((c : Thread nD τ), oneSem i) := by
  rcases i with s | j | j <;> rfl

theorem own_facts : Pipeline.OwnSemFacts spec0 oneSem := by decide +kernel

/-- Anything said of every own cell of a device, kind by kind. -/
theorem each_cell (c : Dev nD) (Φ : GSem nD τ sig → sProp 𝕄) :
    (bigSep Finset.univ fun i : Fin 2 ⊕ Fin 32 ⊕ Fin 32 => Φ (scCell (c, i)))
      = iprop((Φ (slotCell c 0) ∗ Φ (slotCell c 1)) ∗ (bigSep Finset.univ fun j : Fin 32 => Φ (sendCell c j)) ∗ (bigSep Finset.univ fun j : Fin 32 => Φ (recvCell c j))) := by
  rw [bigSep_univ_sum, bigSep_univ_sum, bigSep_fin_two]
  rfl

theorem own_zero (c : Dev nD) :
    (Pipeline.ownSems0 oneSem c : sProp 𝕄)
      = iprop((semVal (slotCell c 0) 0 ∗ semVal (slotCell c 1) 0) ∗ (bigSep Finset.univ fun j : Fin 32 => semVal (sendCell c j) 0) ∗ (bigSep Finset.univ fun j : Fin 32 => semVal (recvCell c j) 0)) := by
  rw [← each_cell c fun g => semVal g 0]
  unfold Pipeline.ownSems0
  exact bigSep_congr fun i _ => by rw [scCell_eq]

/-! ## Whole buffers and their chunks -/

theorem all_left : (Finset.univ.biUnion fun j : Fin 32 => (llV j).view.set) = (Finset.univ : Finset S1024x16384.Idx) := by
  refine Finset.eq_univ_iff_forall.mpr fun i => ?_
  have h1 : (i 1).val < 16384 := (i 1).isLt
  exact Finset.mem_biUnion.mpr ⟨⟨(i 1).val / 512, by omega⟩, Finset.mem_univ _, (mem_llV _ i).mpr rfl⟩

theorem apart_left (j j' : Fin 32) (hne : j ≠ j') : Disjoint (llV j).view.set (llV j').view.set := by
  rw [Finset.disjoint_left]
  intro i hi hi'
  exact hne (Fin.ext (((mem_llV j i).mp hi).symm.trans ((mem_llV j' i).mp hi')))

theorem whole_left (c : Dev nD) (f : S1024x16384.Idx → Elt F .f32) :
    (((c : Thread nD τ).loc main_v1_0) ↦{fullShare} f : sProp 𝕄) = bigSep Finset.univ fun j : Fin 32 => llPts c j f :=
  (congrArg (fun S => (((c : Thread nD τ).loc main_v1_0) ↦[S]{fullShare} f : sProp 𝕄)) all_left.symm).trans
    (pointsTo_biUnion (ℓ := (c : Thread nD τ).loc main_v1_0) (q := fullShare) (f := f) Finset.univ (fun j : Fin 32 => (llV j).view.set) fun j _ j' _ hne => apart_left j j' hne)

theorem all_right : (Finset.univ.biUnion fun j : Fin 32 => (lrV j).view.set) = (Finset.univ : Finset S1024x16384.Idx) := by
  refine Finset.eq_univ_iff_forall.mpr fun i => ?_
  have h1 : (i 1).val < 16384 := (i 1).isLt
  exact Finset.mem_biUnion.mpr ⟨⟨(i 1).val / 512, by omega⟩, Finset.mem_univ _, (mem_lrV _ i).mpr rfl⟩

theorem apart_right (j j' : Fin 32) (hne : j ≠ j') : Disjoint (lrV j).view.set (lrV j').view.set := by
  rw [Finset.disjoint_left]
  intro i hi hi'
  exact hne (Fin.ext (((mem_lrV j i).mp hi).symm.trans ((mem_lrV j' i).mp hi')))

theorem whole_right (c : Dev nD) (f : S1024x16384.Idx → Elt F .f32) :
    (((c : Thread nD τ).loc main_v1_1) ↦{fullShare} f : sProp 𝕄) = bigSep Finset.univ fun j : Fin 32 => lrPts c j f :=
  (congrArg (fun S => (((c : Thread nD τ).loc main_v1_1) ↦[S]{fullShare} f : sProp 𝕄)) all_right.symm).trans
    (pointsTo_biUnion (ℓ := (c : Thread nD τ).loc main_v1_1) (q := fullShare) (f := f) Finset.univ (fun j : Fin 32 => (lrV j).view.set) fun j _ j' _ hne => apart_right j j' hne)

theorem slots_disjoint : Disjoint (slV 0).view.set (slV 1).view.set := by
  rw [Finset.disjoint_left]
  intro i hi hi'
  exact absurd (((mem_slV 0 i).mp hi).symm.trans ((mem_slV 1 i).mp hi')) (by decide)

theorem slots_all : (slV 0).view.set ∪ (slV 1).view.set = Finset.univ := by
  refine Finset.eq_univ_iff_forall.mpr fun i => ?_
  have h0 : (i 0).val < 2 := (i 0).isLt
  rcases Nat.lt_or_ge (i 0).val 1 with h | h
  · exact Finset.mem_union_left _ ((mem_slV 0 i).mpr (by show (i 0).val = 0; omega))
  · exact Finset.mem_union_right _ ((mem_slV 1 i).mpr (by show (i 0).val = 1; omega))

theorem slots_split (c : Dev nD) :
    (iprop(∃ f : Buf (Elt F) _, ((c : Thread nD τ).loc cc0_scratch0) ↦{fullShare} f) : sProp 𝕄) ⊢ iprop((∃ f, slPts c 0 fullShare f) ∗ (∃ f, slPts c 1 fullShare f)) := by
  have h (f : S2x1024x512.Idx → Elt F .f32) : (((c : Thread nD τ).loc cc0_scratch0) ↦{fullShare} f : sProp 𝕄) ⊢ iprop(slPts c 0 fullShare f ∗ slPts c 1 fullShare f) := by
    refine (Entails.of_eq (congrArg (fun S => (((c : Thread nD τ).loc cc0_scratch0) ↦[S]{fullShare} f : sProp 𝕄)) slots_all.symm)).trans ?_
    exact (pointsTo_union slots_disjoint).1
  iintro ⟨%f, H⟩
  ihave H := (h f) $$ H
  icases H with ⟨H0, H1⟩
  isplitl [H0]
  · iexists f; iexact H0
  · iexists f; iexact H1

theorem slots_join (c : Dev nD) :
    (iprop((∃ f, slPts c 0 fullShare f) ∗ (∃ f, slPts c 1 fullShare f)) : sProp 𝕄) ⊢ iprop(∃ f : Buf (Elt F) _, ((c : Thread nD τ).loc cc0_scratch0) ↦{fullShare} f) := by
  have h (f g : S2x1024x512.Idx → Elt F .f32) : (iprop(slPts c 0 fullShare f ∗ slPts c 1 fullShare g) : sProp 𝕄)
      ⊢ iprop(∃ f : Buf (Elt F) _, ((c : Thread nD τ).loc cc0_scratch0) ↦{fullShare} f) := by
    refine (pointsTo_join (ℓ := (c : Thread nD τ).loc cc0_scratch0) slots_disjoint).trans ?_
    rw [slots_all]
    iintro H
    iexists _
    iexact H
  iintro ⟨⟨%f, H0⟩, ⟨%g, H1⟩⟩
  iapply (h f g)
  isplitl [H0] <;> iassumption

/-- The two halves' buffers. -/
abbrev twoBufs : Finset (DevRef τ sig) := {Proc.devRef .tc main_v1_0, Proc.devRef .tc main_v1_1}

theorem held_two (c : Dev nD) (W : Valuation τ sig (Elt F)) :
    (StableHlo.held (c : Thread nD τ) twoBufs W : sProp 𝕄)
      = iprop((((c : Thread nD τ).loc main_v1_0) ↦{fullShare} W main_v1_0) ∗ (((c : Thread nD τ).loc main_v1_1) ↦{fullShare} W main_v1_1)) := by
  unfold StableHlo.held
  rw [bigSep_eq_bigSepL_of_eq [Proc.devRef .tc main_v1_0, Proc.devRef .tc main_v1_1] (by decide) (by decide)]
  rfl

/-! ## What enters and what leaves -/

/-- What a device pays for chunk j: the departure, the arrival at the partner, the local copy. -/
def toPay (c : Dev nD) (j : Fin 32) : sProp 𝕄 :=
  iprop(dutyTok ER (sendCell c j) 0 () ∗ dutyTok ER (recvCell (pr c) j) 0 () ∗ dutyTok ER (slotCell c (sl j)) (j.val / 2) ())

/-- What a device waits for from its partner. -/
def toCome (c : Dev nD) : sProp 𝕄 :=
  iprop(cred (tallyAt (barCell c) () 1) ∗ bigSep Finset.univ fun j : Fin 32 => cred (tallyAt (recvCell c j) () N))

/-- What the launch deals to a device, its own cells still closed. -/
def linear (c : Dev nD) : sProp 𝕄 :=
  iprop((bigSep Finset.univ fun i : Fin 2 ⊕ Fin 32 ⊕ Fin 32 => openTok ER (scCell (c, i)))
    ∗ atPos ER (barCell c) 0 ∅ 0 ∗ dutyTok ER (barCell (pr c)) 0 () ∗ (bigSep Finset.univ fun j : Fin 32 => toPay c j))

def Tk (c : Dev nD) : sProp 𝕄 := iprop((∃ K, records m K ∗ reached ER (barCell (pr c)) 0) ∗ linear c ∗ toCome c)

def Xk (c : Dev nD) : sProp 𝕄 :=
  iprop((∃ K, records m K ∗ reached ER (barCell (pr c)) 0) ∗ levAts L lv
    ∗ (bigSep Finset.univ fun i : Fin 2 ⊕ Fin 32 ⊕ Fin 32 => iprop(atPos ER (scCell (c, i)) 0 ∅ 0 ∗ reached ER (scCell (c, i)) 0))
    ∗ atPos ER (barCell c) 0 ∅ 0 ∗ dutyTok ER (barCell (pr c)) 0 () ∗ (bigSep Finset.univ fun j : Fin 32 => toPay c j) ∗ toCome c)

def Yk (c : Dev nD) : sProp 𝕄 := semVal (barCell c) 0

theorem hopen0 (c : Dev nD) : iprop(Tk m c ∗ Pipeline.ownSems0 oneSem c ∗ levAts L lv) ⊢ (|={Set.univ}=> Xk m c : sProp 𝕄) := by
  have hz : (Pipeline.ownSems0 oneSem c : sProp 𝕄) ⊢ bigSep Finset.univ fun i : Fin 2 ⊕ Fin 32 ⊕ Fin 32 => semVal (scCell (c, i)) 0 := by
    unfold Pipeline.ownSems0
    exact Entails.of_eq (bigSep_congr fun i _ => by rw [scCell_eq])
  have hI (K : GSem nD τ sig → ℕ) : records m K ⊢ bigSep Finset.univ fun i : Fin 2 ⊕ Fin 32 ⊕ Fin 32 => cellInv ER (exRd m) (K (scCell (c, i))) (scCell (c, i)) :=
    bigSep_intro_persistent fun i _ => rec_sc m K (c, i)
  unfold Tk Xk linear
  iintro ⟨⟨⟨%K, #HR, #Hb⟩, ⟨Hop, HatB, HtB, Htok⟩, Hcr⟩, Hz, #Hlev⟩
  ihave Hz := hz $$ Hz
  ihave HI := (hI K) $$ HR
  imod (Rounds.cells_open ER (exRd m) Finset.univ (fun i : Fin 2 ⊕ Fin 32 ⊕ Fin 32 => scCell (c, i)) (fun i => K (scCell (c, i))) (fun _ _ => Set.mem_univ _)) $$ [HI Hop Hz] with Hcells
  · isplitr [Hz]
    · iapply (Entails.of_eq (bigSep_sep' (M := 𝕄) _ _ _).symm)
      isplitl [HI]; · iexact HI
      iexact Hop
    iexact Hz
  imodintro
  isplitr
  · iexists K
    isplitr; · iexact HR
    iexact Hb
  isplitr; · iexact Hlev
  isplitl [Hcells]; · iexact Hcells
  isplitl [HatB]; · iexact HatB
  isplitl [HtB]; · iexact HtB
  isplitl [Htok]; · iexact Htok
  iexact Hcr

/-- All chunks fresh, from the own result whole, the departures' cells and what the device pays. -/
theorem chunks_start (c : Dev nD) :
    (iprop((bigSep Finset.univ fun j : Fin 32 => iprop(atPos ER (sendCell c j) 0 ∅ 0 ∗ reached ER (sendCell c j) 0)) ∗ (bigSep Finset.univ fun j : Fin 32 => toPay c j)
      ∗ (bigSep Finset.univ fun j : Fin 32 => llPts c j (ll0 m c))) : sProp 𝕄) ⊢ chunks m c 0 0 := by
  unfold chunks
  rw [bigSep_congr (Φ := fun j : Fin 32 => if 0 ≤ j.val then fresh m c j else if 0 ≤ j.val then inFlight c j else landed m c j) (Ψ := fun j : Fin 32 => fresh m c j) fun j _ => if_pos (Nat.zero_le _)]
  rw [← bigSep_sep', ← bigSep_sep']
  refine bigSep_mono fun j _ => ?_
  unfold fresh toPay
  show (iprop((atPos ER (sendCell c j) 0 ∅ 0 ∗ reached ER (sendCell c j) 0)
      ∗ (dutyTok ER (sendCell c j) 0 () ∗ dutyTok ER (recvCell (pr c) j) 0 () ∗ dutyTok ER (slotCell c (sl j)) (j.val / 2) ()) ∗ llPts c j (ll0 m c)) : sProp 𝕄) ⊢ _
  iintro ⟨⟨Ha, Hr⟩, ⟨H1, H2, H3⟩, Hl⟩
  isplitl [Ha]; · iexact Ha
  isplitl [Hr]; · iexact Hr
  isplitl [H1]; · iexact H1
  isplitl [H2]; · iexact H2
  isplitl [H3]; · iexact H3
  iexact Hl

/-- Both slots free, from the scratch buffer whole and the slots' cells. -/
theorem slots_start (c : Dev nD) :
    (iprop(((atPos ER (slotCell c 0) 0 ∅ 0 ∗ reached ER (slotCell c 0) 0) ∗ (atPos ER (slotCell c 1) 0 ∅ 0 ∗ reached ER (slotCell c 1) 0))
      ∗ (∃ f : Buf (Elt F) _, ((c : Thread nD τ).loc cc0_scratch0) ↦{fullShare} f)) : sProp 𝕄) ⊢ unused c 0 := by
  unfold unused
  rw [bigSep_congr (Φ := fun s : Fin 2 => if 0 ≤ s.val then ready (F := F) c s 0 else iprop(emp)) (Ψ := fun s : Fin 2 => ready (F := F) c s 0) fun s _ => if_pos (Nat.zero_le _), bigSep_fin_two]
  show _ ⊢ (iprop(ready c 0 0 ∗ ready c 1 0) : sProp 𝕄)
  unfold ready
  iintro ⟨⟨⟨Ha, Hr⟩, ⟨Ha', Hr'⟩⟩, Hs⟩
  ihave Hs := (slots_split (F := F) c) $$ Hs
  icases Hs with ⟨H0, H1⟩
  isplitl [Ha Hr H0]
  · isplitl [Ha]; · iexact Ha
    isplitl [Hr]; · iexact Hr
    iexact H0
  isplitl [Ha']; · iexact Ha'
  isplitl [Hr']; · iexact Hr'
  iexact H1

/-- All arrivals to come. -/
theorem arrivals_start (c : Dev nD) :
    (iprop((bigSep Finset.univ fun j : Fin 32 => atPos ER (recvCell c j) 0 ∅ 0) ∗ (bigSep Finset.univ fun j : Fin 32 => cred (tallyAt (recvCell c j) () N))) : sProp 𝕄) ⊢ arrivals m c 0 := by
  unfold arrivals
  rw [bigSep_congr (Φ := fun j : Fin 32 => if j.val < 0 then arrived m c j else coming c j) (Ψ := fun j : Fin 32 => coming (F := F) c j) fun j _ => if_neg (Nat.not_lt_zero _), ← bigSep_sep']
  exact .rfl

/-- What a device hands to its partner at the barrier. -/
theorem barPay_start (c : Dev nD) :
    (iprop((bigSep Finset.univ fun j : Fin 32 => lrPts c j (lr0 m c)) ∗ (bigSep Finset.univ fun j : Fin 32 => reached ER (recvCell c j) 0)) : sProp 𝕄) ⊢ barPay m (pr c) := by
  unfold barPay
  rw [pr_pr, ← bigSep_sep']

theorem hin0 (c : Dev nD) :
    iprop(Pipeline.scopedRest (Pipeline.pin (pcfgs (F := F)) adm 0).spec c ∗ (∃ r, prngReg c r) ∗ StableHlo.held (c.tc : Thread nD τ) twoBufs (Va m c) ∗ Xk m c)
      ⊢ (pdats m 0 c).Φ 0 := by
  rw [show (pdats m 0 c).Φ 0 = iprop((∃ K, quiet m K c 0) ∗ spare c ∗ ∃ r, prngReg c r) from rfl, show (Pipeline.pin (pcfgs (F := F)) adm 0).spec = spec0 from rfl, scopedRest0_eq, held_two]
  rw [show Va m c main_v1_0 = ll0 m c from rfl, show Va m c main_v1_1 = lr0 m c from rfl, whole_left, whole_right]
  unfold Xk toCome
  rw [each_cell c fun g => iprop(atPos ER g 0 ∅ 0 ∗ reached ER g 0)]
  iintro ⟨⟨Hscr, Hsp⟩, Hp, ⟨Hl, Hr⟩, ⟨%K, #HR, #Hb⟩, #Hlev, ⟨Hslots, Hsends, Hrecvs⟩, HatB, HtB, Htok, HcB, HcR⟩
  ihave Hrecvs := (Entails.of_eq (bigSep_sep' (M := 𝕄) _ _ _)) $$ Hrecvs
  icases Hrecvs with ⟨HatR, HrR⟩
  isplitr [Hsp Hp]
  · iexists K
    unfold quiet
    rw [if_pos rfl]
    isplitr; · iexact HR
    isplitr; · iexact Hlev
    isplitl [HatB HcB HtB Hr HrR]
    · isplitl [HatB]; · iexact HatB
      isplitl [HcB]; · iexact HcB
      isplitr; · iexact Hb
      isplitl [HtB]; · iexact HtB
      iapply (barPay_start m c)
      isplitl [Hr]; · iexact Hr
      iexact HrR
    isplitl [Hsends Htok Hl]
    · iapply (chunks_start m c)
      isplitl [Hsends]; · iexact Hsends
      isplitl [Htok]; · iexact Htok
      iexact Hl
    isplitl [Hslots Hscr]
    · iapply (slots_start (F := F) c)
      isplitl [Hslots]; · iexact Hslots
      iexact Hscr
    iapply (arrivals_start m c)
    isplitl [HatR]; · iexact HatR
    iexact HcR
  isplitl [Hsp]; · unfold spare; iexact Hsp
  iexact Hp

theorem hout0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) twoBufs (Vb m c)
      ∗ Pipeline.ownSems0 oneSem c ∗ Yk c) := by
  rw [show (pdats m 0 c).Φ (Fin.last (Pipeline.pin (pcfgs (F := F)) adm 0).N) = iprop((∃ K, quiet m K c (Fin.last cfg0.N).val) ∗ spare c ∗ ∃ r, prngReg c r) from rfl,
    show (Fin.last cfg0.N).val = 32 from N_0, show (Pipeline.pin (pcfgs (F := F)) adm 0).spec = spec0 from rfl, scopedRest0_eq, held_two, own_zero]
  rw [Vb_left, Vb_right, whole_left, whole_right]
  have hq (K : GSem nD τ sig → ℕ) : quiet m K c 32 = iprop(semVal (barCell c) 0
      ∗ (semVal (slotCell c 0) 0 ∗ semVal (slotCell c 1) 0)
      ∗ (bigSep Finset.univ fun j : Fin 32 => semVal (sendCell c j) 0)
      ∗ (bigSep Finset.univ fun j : Fin 32 => semVal (recvCell c j) 0)
      ∗ (bigSep Finset.univ fun j : Fin 32 => llPts c j (full m c))
      ∗ (bigSep Finset.univ fun j : Fin 32 => lrPts c j (full m (pr c)))
      ∗ ((∃ f, slPts c 0 fullShare f) ∗ (∃ f, slPts c 1 fullShare f))) := by
    unfold quiet
    rw [if_neg (by decide), if_pos rfl]
  unfold Yk spare
  simp only [hq]
  iintro ⟨⟨%K, Hb, Hz, Hzs, Hzr, Hl, Hr, Hsl⟩, Hsp, Hp⟩
  isplitl [Hsl Hsp]
  · isplitl [Hsl]; · iapply (slots_join (F := F) c); iexact Hsl
    iexact Hsp
  isplitl [Hp]; · iexact Hp
  isplitl [Hl Hr]
  · isplitl [Hl]; · iexact Hl
    iexact Hr
  isplitl [Hz Hzs Hzr]
  · isplitl [Hz]; · iexact Hz
    isplitl [Hzs]; · iexact Hzs
    iexact Hzr
  iexact Hb

/-! ## The region -/

theorem kit0 : Pipeline.PLaunchFacts (nD := nD) (τ := τ) (pcfgs (F := F)) 0 := launch0.toP
theorem kit1 : Pipeline.PLaunchFacts (nD := nD) (τ := τ) (pcfgs (F := F)) 1 := launch1.toP

theorem owed0_zero (c : Dev nD) : (pdats m 0 c).owed 0 = O₀ c := by
  show due c 0 = O₀ c
  exact if_pos rfl
theorem owed0_last (c : Dev nD) : (pdats m 0 c).owed (Fin.last _) = 0 := by
  show due c (Fin.last cfg0.N).val = 0
  rw [show (Fin.last cfg0.N).val = 32 from N_0]
  unfold due
  rw [if_neg (by decide), owed_last]

theorem O₀_pos (c : Dev nD) (g : GSem nD τ sig) (u : Unit) (h : 0 < O₀ c g u) : (∃ j : Fin 32, g = recvCell (pr c) j) ∨ g = barCell (pr c) := by
  unfold O₀ at h
  rw [Pi.add_apply, Finsupp.add_apply] at h
  rcases Nat.add_pos_iff_pos_or_pos.mp h with h | h
  · exact .inl (owed_pos c 0 g u h)
  · rw [tallyAt_apply] at h
    split at h
    · next hg => exact .inr hg.1
    · exact absurd h (Nat.lt_irrefl 0)

theorem cut0 (c : Dev nD) (n : ℕ) (g : GSem nD τ sig) (i : Unit) (h : 0 < due c n g i) : i ∈ L g ∧ (0 : ℕ) < lv g i := by
  have hr (j : Fin 32) : i ∈ L (recvCell (pr c) j) ∧ (0 : ℕ) < lv (recvCell (pr c) j) i :=
    ⟨by rw [L_tc]; exact Finset.mem_singleton_self _, by rw [lv_recv]; decide⟩
  unfold due at h
  split at h
  · rcases O₀_pos c g i h with ⟨j, rfl⟩ | rfl
    · exact hr j
    · exact ⟨by rw [L_tc]; exact Finset.mem_singleton_self _, Nat.one_pos⟩
  · obtain ⟨j, rfl⟩ := owed_pos c n g i h
    exact hr j

theorem stage_low0 : ∀ (w : Fin cfg0.W) (s : Fin (cfg0.win w).nbuf), lvS (.dma ((cfg0.win w).sem s) : SemLoc sig) = 0 := by decide
theorem stage_low1 : ∀ (w : Fin cfg1.W) (s : Fin (cfg1.win w).nbuf), lvS (.dma ((cfg1.win w).sem s) : SemLoc sig) = 0 := by decide

/-- The result's buffer, which the first region leaves alone. -/
def untouched (c : Dev nD) : sProp 𝕄 := ((c : Thread nD τ).loc main_v2) ↦{fullShare} Va m c main_v2

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 oneSem own_facts
    twoBufs twoBufs (Finset.Subset.refl _) kit0 rfl (fun c => (body0 m c).loose)
    (fun _ => 0) O₀ (fun c => (owed0_zero m c).trans (zero_add _).symm) (owed0_last m) (fun _ => rfl) (fun _ w => by fin_cases w <;> rfl)
    (Va m) (Vb m) (fun _ b hb => absurd hb (by rw [Finset.sdiff_self]; exact Finset.notMem_empty b))
    (Tk m) Yk (Xk m) Yk (hopen0 m) (hin0 m) (hout0 m)
    (fun c => by iintro H; imodintro; iexact H)
    (fun _ => 0)
    ⟨fun _ _ _ => by rw [L_tc]; exact Finset.mem_singleton_self _, fun _ w s => Nat.le_of_eq (stage_low0 w s), fun c t g i h => cut0 c t.val g i h⟩
    (untouched m)
    (fun c w => by fin_cases w <;> rfl)
    (fun c w => ((dat0 m c).arrAt_in w (by fin_cases w <;> rfl) _).trans (by
      fin_cases w
      · exact (Vb_of m c main_arg0 (by decide)).symm
      · exact (Vb_of m c main_arg1 (by decide)).symm))

end Cert.KernelIdeal.Exchange

end
-- ==== Proof.IRegion1.lean ====
/-
  The second region: entered with both halves of the product, left with the result.
-/
module

public import proofs.«01_k».proof.Proof.IRegion0

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat)

/-- The result's blocks, put together. -/
theorem result_whole (c : Dev nD) : (dat1 m c).arrAt 2 cfg1.N = outv m c := by
  refine (dat1 m c).arrAt_eq_of_covers 2 _ (by decide +kernel) fun t hf y => ?_
  have ht : t.val < 16 := N_1 ▸ t.isLt
  have h0 : (y 0).val < 64 := (y 0).isLt
  have e0 : (((cfg1.win 2).blk t).view.emb y 0).val = 64 * t.val + (y 0).val := by
    blk_simp [index1_2]
    show t.val * 64 + (y 0).val = _
    omega
  have e1 : (((cfg1.win 2).blk t).view.emb y 1).val = (y 1).val := by
    blk_simp [index1_2]
  show outBlk c (rowsOf (full m c) ⟨t.val, ht⟩) (rowsOf (full m (pr c)) ⟨t.val, ht⟩) y = outv m c (((cfg1.win 2).blk t).view.emb y)
  unfold outv
  have hr : (⟨(((cfg1.win 2).blk t).view.emb y 0).val / 64, by rw [e0]; omega⟩ : Fin 16) = ⟨t.val, ht⟩ := Fin.ext (by show (((cfg1.win 2).blk t).view.emb y 0).val / 64 = t.val; rw [e0]; omega)
  have hy : (ix2 ⟨(((cfg1.win 2).blk t).view.emb y 0).val % 64, Nat.mod_lt _ (by decide)⟩ ⟨(((cfg1.win 2).blk t).view.emb y 1).val, (((cfg1.win 2).blk t).view.emb y 1).isLt⟩ : S64x32768.Idx) = y := by
    funext a
    fin_cases a
    · exact Fin.ext (show (((cfg1.win 2).blk t).view.emb y 0).val % 64 = (y 0).val by rw [e0]; omega)
    · exact Fin.ext e1
  exact (congrArg₂ (fun r x => outBlk c (rowsOf (full m c) r) (rowsOf (full m (pr c)) r) x) hr hy).symm

/-- What rides beside the second region: the arguments, the barrier's counter, the generator's register. -/
def beside (c : Dev nD) : sProp 𝕄 :=
  iprop(StableHlo.held (c : Thread nD τ) (Pipeline.arrRefs (τ := τ) (pcfgs (F := F) 0).spec) (Vb m c) ∗ semVal (barCell c) 0 ∗ ∃ r, prngReg c r)

set_option backward.isDefEq.respectTransparency.types false in
def reg1 : Pipeline.RegionSeg (pcfgs (F := F)) adm (pdats m) () defs₀ 𝒱₀ L lv 1 :=
  Pipeline.RegionSeg.ofHeld (pcfgs (F := F)) adm (pdats m) () defs₀ 𝒱₀ L lv 1 (fun _ => 0) (fun _ => iprop(emp)) (fun _ => iprop(emp))
    kit1 rfl (fun c => (body1 m c).loose) (fun _ _ => rfl) (fun _ => rfl) (fun _ w => by fin_cases w <;> rfl)
    (fun c => by
      show (iprop(Pipeline.scopedRest spec1 c ∗ emp) : sProp 𝕄) ⊢ Pipeline.scopedRest spec1 c
      iintro ⟨H, -⟩
      iexact H)
    (fun c => by
      show (Pipeline.scopedRest spec1 c : sProp 𝕄) ⊢ iprop(Pipeline.scopedRest spec1 c ∗ emp)
      iintro H
      isplitl [H]; · iexact H
      iempintro)
    (fun _ => 0)
    ⟨fun _ _ _ => by rw [L_tc]; exact Finset.mem_singleton_self _, fun _ w s => Nat.le_of_eq (stage_low1 w s), fun _ _ _ h => absurd h (Nat.lt_irrefl 0)⟩
    (beside m) (Vb m) (Vc m)
    (fun c w => by
      fin_cases w
      · exact (Vb_left m c).symm
      · exact (Vb_right m c).symm
      · exact (Vb_of m c main_v2 (by decide)).symm)
    (fun c w => by
      fin_cases w
      · exact ((dat1 m c).arrAt_in 0 rfl _).trans ((Vb_left m c).symm.trans (Vc_of m c main_v1_0 (by decide)).symm)
      · exact ((dat1 m c).arrAt_in 1 rfl _).trans ((Vb_right m c).symm.trans (Vc_of m c main_v1_1 (by decide)).symm)
      · exact (result_whole m c).trans (Vc_out m c).symm)

/-! ## Around the regions -/

/-- All the buffers that stay, one by one. -/
theorem held_all (c : Dev nD) (W : Valuation τ sig (Elt F)) :
    (StableHlo.held (c : Thread nD τ) (Pipeline.ucRefs τ sig) W : sProp 𝕄)
      = iprop((((c : Thread nD τ).loc main_arg0) ↦{fullShare} W main_arg0) ∗ (((c : Thread nD τ).loc main_arg1) ↦{fullShare} W main_arg1)
        ∗ (((c : Thread nD τ).loc main_v1_0) ↦{fullShare} W main_v1_0) ∗ (((c : Thread nD τ).loc main_v1_1) ↦{fullShare} W main_v1_1)
        ∗ (((c : Thread nD τ).loc main_v2) ↦{fullShare} W main_v2)) := by
  unfold StableHlo.held
  rw [bigSep_eq_bigSepL_of_eq [Proc.devRef .tc main_arg0, Proc.devRef .tc main_arg1, Proc.devRef .tc main_v1_0, Proc.devRef .tc main_v1_1, Proc.devRef .tc main_v2]
    (by decide) (by decide)]
  rfl

theorem held_args (c : Dev nD) (W : Valuation τ sig (Elt F)) :
    (StableHlo.held (c : Thread nD τ) (Pipeline.arrRefs (τ := τ) (pcfgs (F := F) 0).spec) W : sProp 𝕄)
      = iprop((((c : Thread nD τ).loc main_arg0) ↦{fullShare} W main_arg0) ∗ (((c : Thread nD τ).loc main_arg1) ↦{fullShare} W main_arg1)) := by
  unfold StableHlo.held
  rw [show Pipeline.arrRefs (τ := τ) (pcfgs (F := F) 0).spec = Pipeline.arrRefs (τ := τ) spec0 from rfl, show Pipeline.arrRefs (τ := τ) spec0 = {Proc.devRef .tc main_arg0, Proc.devRef .tc main_arg1} from by decide,
    bigSep_eq_bigSepL_of_eq [Proc.devRef .tc main_arg0, Proc.devRef .tc main_arg1] (by decide) (by decide)]
  rfl

theorem held_results (c : Dev nD) (W : Valuation τ sig (Elt F)) :
    (StableHlo.held (c : Thread nD τ) (Pipeline.arrRefs (τ := τ) (pcfgs (F := F) 1).spec) W : sProp 𝕄)
      = iprop((((c : Thread nD τ).loc main_v1_0) ↦{fullShare} W main_v1_0) ∗ (((c : Thread nD τ).loc main_v1_1) ↦{fullShare} W main_v1_1)
        ∗ (((c : Thread nD τ).loc main_v2) ↦{fullShare} W main_v2)) := by
  unfold StableHlo.held
  rw [show Pipeline.arrRefs (τ := τ) (pcfgs (F := F) 1).spec = Pipeline.arrRefs (τ := τ) spec1 from rfl, show Pipeline.arrRefs (τ := τ) spec1 = {Proc.devRef .tc main_v1_0, Proc.devRef .tc main_v1_1, Proc.devRef .tc main_v2} from by decide,
    bigSep_eq_bigSepL_of_eq [Proc.devRef .tc main_v1_0, Proc.devRef .tc main_v1_1, Proc.devRef .tc main_v2] (by decide) (by decide)]
  rfl

/-- What a device starts with. -/
abbrev T₀ (c : Dev nD) : sProp 𝕄 :=
  iprop(StableHlo.held (c : Thread nD τ) (Pipeline.ucRefs τ sig) (Va m c) ∗ (∃ r, prngReg c r) ∗ Tk m c ∗ ∃ W, owes (c : Thread nD τ) (O₀ c) W)
/-- What a device ends with. -/
abbrev Tₙ (c : Dev nD) : sProp 𝕄 :=
  iprop(StableHlo.held (c : Thread nD τ) (Pipeline.ucRefs τ sig) (Vc m c) ∗ semVal (barCell c) 0)

theorem reg0_pre (c : Dev nD) : T₀ m c ⊢ (reg0 m).pre c := by
  show _ ⊢ iprop(StableHlo.held (c.tc : Thread nD τ) (Pipeline.arrRefs (τ := τ) (pcfgs (F := F) 0).spec) (Va m c) ∗ (∃ r, prngReg c r)
    ∗ (StableHlo.held (c.tc : Thread nD τ) twoBufs (Va m c) ∗ untouched m c) ∗ Tk m c ∗ ∃ Wd, owes (c : Thread nD τ) (0 + O₀ c) Wd)
  unfold T₀
  rw [held_all, held_args, held_two, zero_add]
  unfold untouched
  iintro ⟨⟨H0, H1, Hl, Hr, H2⟩, Hp, HT, HO⟩
  isplitl [H0 H1]
  · isplitl [H0] <;> iassumption
  isplitl [Hp]; · iexact Hp
  isplitl [Hl Hr H2]
  · isplitl [Hl Hr]
    · isplitl [Hl] <;> iassumption
    iexact H2
  isplitl [HT]; · iexact HT
  iexact HO

theorem reg0_post (c : Dev nD) : (reg0 m).post c ⊢ (reg1 m).pre c := by
  show iprop(StableHlo.held (c.tc : Thread nD τ) (Pipeline.arrRefs (τ := τ) (pcfgs (F := F) 0).spec) (Vb m c) ∗ (∃ r, prngReg c r)
      ∗ (StableHlo.held (c.tc : Thread nD τ) twoBufs (Vb m c) ∗ untouched m c) ∗ Yk c ∗ ∃ Wd, owes (c : Thread nD τ) (0 : CellTallies nD τ sig Unit) Wd)
    ⊢ iprop(StableHlo.held (c.tc : Thread nD τ) (Pipeline.arrRefs (τ := τ) (pcfgs (F := F) 1).spec) (Vb m c) ∗ emp ∗ beside m c
      ∗ ∃ Wd, owes (c : Thread nD τ) (0 : CellTallies nD τ sig Unit) Wd)
  unfold beside untouched Yk
  rw [held_results, held_two, Vb_of m c main_v2 (by decide)]
  iintro ⟨Ha, Hp, ⟨⟨Hl, Hr⟩, H2⟩, Hb, HO⟩
  isplitl [Hl Hr H2]
  · isplitl [Hl]; · iexact Hl
    isplitl [Hr] <;> iassumption
  isplitr; · iempintro
  isplitl [Ha Hp Hb]
  · isplitl [Ha]; · iexact Ha
    isplitl [Hb] <;> iassumption
  iexact HO

theorem reg1_post (c : Dev nD) : (reg1 m).post c ⊢ iprop(Tₙ m c ∗ ∃ W, owes (c : Thread nD τ) (0 : CellTallies nD τ sig Unit) W) := by
  show iprop(StableHlo.held (c.tc : Thread nD τ) (Pipeline.arrRefs (τ := τ) (pcfgs (F := F) 1).spec) (Vc m c) ∗ emp ∗ beside m c
      ∗ ∃ Wd, owes (c : Thread nD τ) (0 : CellTallies nD τ sig Unit) Wd) ⊢ _
  unfold beside Tₙ
  rw [held_results, held_args, held_all, Vc_of m c main_arg0 (by decide), Vc_of m c main_arg1 (by decide)]
  iintro ⟨⟨Hl, Hr, H2⟩, -, ⟨⟨H0, H1⟩, Hb, -⟩, HO⟩
  isplitr [HO]
  · isplitr [Hb]
    · isplitl [H0]; · iexact H0
      isplitl [H1]; · iexact H1
      isplitl [Hl]; · iexact Hl
      isplitl [Hr] <;> iassumption
    iexact Hb
  iexact HO

/-- The program as its two regions. -/
def parts : List (Pipeline.Seg (pcfgs (F := F)) adm (pdats m) () defs₀ 𝒱₀ L lv) := [.region (reg0 m), .region (reg1 m)]

end Cert.KernelIdeal.Exchange

end
-- ==== Proof.ILaunch.lean ====
/-
  The run: what the launch deals to each device, and what every run of the program ends in.
-/
module

public import proofs.«01_k».proof.Proof.IRegion1
public import Idealize.ShloMosaic.Lib.Pipeline.Regions
public import Idealize.ShloMosaic.Lib.Pipeline.Kit
public import Idealize.ShloMosaic.Lib.StableHlo

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat)

/-! ## The cells and the tokens -/

theorem reg_ne_dma (p : Sem sig) (q : DmaSem sig) : (SemLoc.reg p : SemLoc sig) ≠ .dma q := fun h => nomatch h

theorem oneSem_bar : ∀ i, oneSem i ≠ .reg barS := by
  rintro (s | j | j) <;> exact (reg_ne_dma _ _).symm

def barEmb : Dev nD ↪ GSem nD τ sig := ⟨fun c => barCell c, fun _ _ h => congrArg (fun g : GSem nD τ sig => g.1.1) h⟩

theorem scCell_inj : Function.Injective scCell := by
  rintro ⟨c, i⟩ ⟨d, k⟩ h
  rw [scCell_eq, scCell_eq] at h
  exact Prod.ext (congrArg (fun g : GSem nD τ sig => g.1.1) h) (own_facts.inj (congrArg Prod.snd h))

def scEmb : Dev nD × (Fin 2 ⊕ Fin 32 ⊕ Fin 32) ↪ GSem nD τ sig := ⟨scCell, scCell_inj⟩

/-- All barriers. -/
abbrev barCells : Finset (GSem nD τ sig) := Finset.univ.map barEmb
/-- All the other cells. -/
abbrev scCells : Finset (GSem nD τ sig) := Finset.univ.map scEmb

theorem cells_disjoint : Disjoint (barCells : Finset (GSem nD τ sig)) scCells := by
  rw [Finset.disjoint_left]
  intro g h h'
  obtain ⟨c, -, rfl⟩ := Finset.mem_map.mp h
  obtain ⟨⟨d, i⟩, -, e⟩ := Finset.mem_map.mp h'
  have e' : scCell (d, i) = barCell c := e
  rw [scCell_eq] at e'
  exact oneSem_bar i (congrArg Prod.snd e')

/-- The payments due on one device's cells: the barrier's, the departures', the arrivals', the local copies'. -/
abbrev Due : Type := Unit ⊕ Fin 32 ⊕ Fin 32 ⊕ Fin 32

def dueSem : Due → SemLoc sig
  | .inl _ => .reg barS
  | .inr (.inl j) => .dma (sendS j)
  | .inr (.inr (.inl j)) => .dma (recvS j)
  | .inr (.inr (.inr j)) => .dma (slotS (sl j))
def dueRound : Due → ℕ
  | .inr (.inr (.inr j)) => j.val / 2
  | _ => 0

theorem dueSem_val (k : Due) (q : DmaSem sig) (h : dueSem k = .dma q) :
    (∃ j : Fin 32, k = .inr (.inl j) ∧ 5 + j.val = q.val) ∨ (∃ j : Fin 32, k = .inr (.inr (.inl j)) ∧ 37 + j.val = q.val)
      ∨ (∃ j : Fin 32, k = .inr (.inr (.inr j)) ∧ 3 + j.val % 2 = q.val) := by
  rcases k with u | j | j | j
  · exact absurd h (reg_ne_dma _ _)
  · injection h with h; exact .inl ⟨j, rfl, congrArg Fin.val h⟩
  · injection h with h; exact .inr (.inl ⟨j, rfl, congrArg Fin.val h⟩)
  · injection h with h; exact .inr (.inr ⟨j, rfl, congrArg Fin.val h⟩)

theorem due_inj : Function.Injective fun k : Due => (dueSem k, dueRound k) := by
  intro i k h
  have h1 : dueSem i = dueSem k := congrArg Prod.fst h
  have h2 : dueRound i = dueRound k := congrArg Prod.snd h
  rcases k with v | k | k | k
  · rcases i with u | j | j | j
    · rfl
    all_goals exact absurd h1.symm (reg_ne_dma _ _)
  · rcases dueSem_val i (sendS k) h1 with ⟨j, rfl, e⟩ | ⟨j, rfl, e⟩ | ⟨j, rfl, e⟩
    · have e' : 5 + j.val = 5 + k.val := e
      exact congrArg (fun i : Fin 32 => (.inr (.inl i) : Due)) (show j = k from Fin.ext (by omega))
    · have e' : 37 + j.val = 5 + k.val := e
      exact absurd e' (by omega)
    · have e' : 3 + j.val % 2 = 5 + k.val := e
      exact absurd e' (by omega)
  · rcases dueSem_val i (recvS k) h1 with ⟨j, rfl, e⟩ | ⟨j, rfl, e⟩ | ⟨j, rfl, e⟩
    · have e' : 5 + j.val = 37 + k.val := e
      exact absurd e' (by omega)
    · have e' : 37 + j.val = 37 + k.val := e
      exact congrArg (fun i : Fin 32 => (.inr (.inr (.inl i)) : Due)) (show j = k from Fin.ext (by omega))
    · have e' : 3 + j.val % 2 = 37 + k.val := e
      exact absurd e' (by omega)
  · rcases dueSem_val i (slotS (sl k)) h1 with ⟨j, rfl, e⟩ | ⟨j, rfl, e⟩ | ⟨j, rfl, e⟩
    · have e' : 5 + j.val = 3 + k.val % 2 := e
      exact absurd e' (by omega)
    · have e' : 37 + j.val = 3 + k.val % 2 := e
      exact absurd e' (by omega)
    · have e' : 3 + j.val % 2 = 3 + k.val % 2 := e
      have e2 : j.val / 2 = k.val / 2 := h2
      exact congrArg (fun i : Fin 32 => (.inr (.inr (.inr i)) : Due)) (show j = k from Fin.ext (by omega))

/-- Every payment of the exchange. -/
def allDue : Finset (GSem nD τ sig × ℕ × Unit) :=
  Finset.univ.map ⟨fun p : Dev nD × Due => (((p.1 : Thread nD τ), dueSem p.2), dueRound p.2, ()), fun _ _ h =>
    Prod.ext (congrArg (fun t : GSem nD τ sig × ℕ × Unit => t.1.1.1) h)
      (due_inj (Prod.ext (congrArg (fun t : GSem nD τ sig × ℕ × Unit => t.1.2) h) (congrArg (fun t : GSem nD τ sig × ℕ × Unit => t.2.1) h)))⟩

theorem allDue_eq :
    (bigSep allDue (fun x => dutyTok ER x.1 x.2.1 x.2.2) : sProp 𝕄)
      = bigSep Finset.univ fun c : Dev nD => iprop(dutyTok ER (barCell c) 0 () ∗ (bigSep Finset.univ fun j : Fin 32 => dutyTok ER (sendCell c j) 0 ())
          ∗ (bigSep Finset.univ fun j : Fin 32 => dutyTok ER (recvCell c j) 0 ()) ∗ (bigSep Finset.univ fun j : Fin 32 => dutyTok ER (slotCell c (sl j)) (j.val / 2) ())) := by
  unfold allDue
  rw [bigSep_map, bigSep_univ_prod]
  refine bigSep_congr fun c _ => ?_
  rw [bigSep_univ_sum, bigSep_univ_sum, bigSep_univ_sum, show (Finset.univ : Finset Unit) = {()} from rfl, bigSep_singleton]
  rfl

/-- Going to the partner, as a permutation of the devices. -/
def swap : Dev nD ≃ Dev nD := ⟨pr, pr, pr_pr, pr_pr⟩

/-- The tokens of barriers and arrivals, each handed to the partner, who pays. -/
theorem due_around :
    (bigSep allDue (fun x => dutyTok ER x.1 x.2.1 x.2.2) : sProp 𝕄)
      ⊢ bigSep Finset.univ fun c : Dev nD => iprop(dutyTok ER (barCell (pr c)) 0 () ∗ (bigSep Finset.univ fun j : Fin 32 => toPay c j)) := by
  rw [allDue_eq]
  unfold toPay
  simp only [bigSep_sep']
  rw [bigSep_univ_equiv swap (fun c : Dev nD => (dutyTok ER (barCell c) 0 () : sProp 𝕄)),
    bigSep_univ_equiv swap (fun c : Dev nD => (bigSep Finset.univ fun j : Fin 32 => dutyTok ER (recvCell c j) 0 () : sProp 𝕄))]
  exact BI.Entails.refl _

/-! ## The ghost state at launch -/

def u₀ : UU :=
  (initOf (Pipeline.cells (Pipeline.pin (pcfgs (F := F)) adm) cellOf_inj) (Pipeline.launchToks (Pipeline.pin (pcfgs (F := F)) adm) cellOf_inj),
    launchOf barCells scCells allDue)

/-- Something all of which sits at one device. -/
def lodged (a : Dev nD) (X : sProp 𝕄) (c : Dev nD) : sProp 𝕄 := if c = a then X else iprop(emp)

theorem lodged_all (a : Dev nD) (X : sProp 𝕄) : bigSep Finset.univ (lodged a X) = X := by
  have h0 : ∀ c ∈ Finset.univ.erase a, lodged a X c = (BI.emp : sProp 𝕄) := fun c hc => if_neg (Finset.ne_of_mem_erase hc)
  rw [bigSep_univ_at _ a, bigSep_congr h0, BI.bigSep_emp_const, show lodged a X a = X from if_pos rfl]
  exact BI.equiv_iff.mp sep_emp

/-- The exchange's ghost state, at device 0 until it is dealt out. -/
def G : Dev nD → sProp 𝕄 := lodged 0 (BI.own (ER (launchOf barCells scCells allDue)))

/-- All invariants, as the record the devices keep. -/
theorem records_intro (κ : GSem nD τ sig → ℕ) : (bigSep (barCells ∪ scCells) fun g => cellInv ER (exRd m) (κ g) g) ⊢ (records m κ : sProp 𝕄) := by
  rw [bigSep_union cells_disjoint, bigSep_map, bigSep_map]
  unfold records
  exact BI.Entails.refl _

/-! ## The credits at launch -/

theorem same_dev {c d : Dev nD} {s s' : SemLoc sig} (h : (((c : Thread nD τ), s) : GSem nD τ sig) = ((d : Thread nD τ), s')) : c = d :=
  congrArg (fun g : GSem nD τ sig => g.1.1) h

theorem owed_at_bar (d c : Dev nD) (n : ℕ) : owed d n (barCell c) () = 0 := by
  by_contra h
  obtain ⟨j, e⟩ := owed_pos d n (barCell c) () (Nat.pos_of_ne_zero h)
  exact reg_ne_dma _ _ (congrArg Prod.snd e)

theorem recvS_inj {j k : Fin 32} (h : (SemLoc.dma (recvS j) : SemLoc sig) = .dma (recvS k)) : j = k := by
  injection h with h
  have e : 37 + j.val = 37 + k.val := congrArg Fin.val h
  exact Fin.ext (by omega)

theorem owed_at_recv (d c : Dev nD) (j : Fin 32) : owed d 0 (recvCell c j) () = if d = pr c then N else 0 := by
  unfold owed
  rw [Finset.sum_apply, Finsupp.finset_sum_apply, Finset.filter_true_of_mem fun k _ => Nat.zero_le _]
  rw [Finset.sum_eq_single j]
  · rw [tallyAt_apply]
    by_cases h : d = pr c
    · subst h; rw [pr_pr, if_pos ⟨rfl, rfl⟩, if_pos rfl]
    · rw [if_neg (fun e => h (by rw [same_dev e.1, pr_pr])), if_neg h]
  · intro k _ hk
    rw [tallyAt_apply, if_neg fun e => hk (recvS_inj (congrArg Prod.snd e.1)).symm]
  · exact fun h => absurd (Finset.mem_univ j) h

theorem O₀_bar (d c : Dev nD) : O₀ d (barCell c) () = if d = pr c then 1 else 0 := by
  unfold O₀
  rw [Pi.add_apply, Finsupp.add_apply, owed_at_bar, Nat.zero_add, tallyAt_apply]
  by_cases h : d = pr c
  · subst h; rw [pr_pr, if_pos ⟨rfl, rfl⟩, if_pos rfl]
  · rw [if_neg (fun e => h (by rw [same_dev e.1, pr_pr])), if_neg h]

theorem O₀_recv (d c : Dev nD) (j : Fin 32) : O₀ d (recvCell c j) () = if d = pr c then N else 0 := by
  unfold O₀
  rw [Pi.add_apply, Finsupp.add_apply, owed_at_recv, tallyAt_apply, if_neg fun e : recvCell c j = barCell (pr d) ∧ () = () => reg_ne_dma _ _ (congrArg Prod.snd e.1).symm, Nat.add_zero]

/-- A credit of what a device's partner owes at one of its cells. -/
theorem credit_at (g : GSem nD τ sig) (c : Dev nD) (n : ℕ) (h : ∀ d, O₀ d g () = if d = pr c then n else 0) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, Finset.sum_congr rfl fun d _ => h d, Finset.sum_ite_eq' Finset.univ (pr c) fun _ => n,
    if_pos (Finset.mem_univ _)]

def recvEmb : Fin 32 ↪ SemLoc sig := ⟨fun j => .dma (recvS j), fun _ _ h => recvS_inj h⟩

theorem credits (c : Dev nD) : (Pipeline.launchCred O₀ c : sProp 𝕄) ⊢ toCome c := by
  have hs : Finset.univ.map recvEmb ⊆ Finset.univ.erase (SemLoc.reg barS : SemLoc sig) := fun s hs => by
    obtain ⟨j, -, rfl⟩ := Finset.mem_map.mp hs
    exact Finset.mem_erase.mpr ⟨(reg_ne_dma _ _).symm, Finset.mem_univ _⟩
  unfold Pipeline.launchCred toCome
  rw [bigSep_univ_at _ (SemLoc.reg barS : SemLoc sig), credit_at (barCell c) c 1 fun d => O₀_bar d c]
  refine sep_mono_right (BI.Entails.trans (bigSep_subset hs) ?_)
  rw [bigSep_map]
  refine bigSep_mono fun j _ => ?_
  rw [← credit_at (recvCell c j) c N fun d => O₀_recv d c j]
  exact BI.Entails.refl _

/-! ## The run -/

theorem unscoped_one (c : Dev nD) : (unscopedSems0 c : sProp 𝕄) = semVal (barCell c) 0 := by
  unfold unscopedSems0
  rw [show (Finset.univ.filter fun sm : SemLoc sig => ¬ sm.isScoped .tc) = {SemLoc.reg barS} from by decide, bigSep_singleton]

/-- What a device has at launch besides the exchange's ghost state. -/
def bundle (c : Dev nD) : sProp 𝕄 :=
  iprop(StableHlo.held (c : Thread nD τ) (Pipeline.ucRefs τ sig) (Va m c) ∗ toCome c ∗ owes (c : Thread nD τ) (O₀ c) ∅ ∗ ∃ r, prngReg c r)

/-- The linear part of the ghost state, collected from all devices' shares. -/
theorem linear_intro :
    iprop((bigSep barCells fun g => atPos ER g 0 ∅ 0) ∗ (bigSep scCells fun g => openTok ER g) ∗ bigSep allDue (fun x => dutyTok ER x.1 x.2.1 x.2.2))
      ⊢ (bigSep Finset.univ fun c : Dev nD => linear c : sProp 𝕄) := by
  unfold linear
  rw [bigSep_sep', bigSep_sep', bigSep_map, bigSep_map, bigSep_univ_prod]
  iintro ⟨Ha, Ho, Ht⟩
  isplitl [Ho]; · iexact Ho
  isplitl [Ha]; · iexact Ha
  iapply (due_around (F := F)) $$ Ht

theorem start_one (κ : GSem nD τ sig → ℕ) (c : Dev nD) :
    iprop((records m κ ∗ bigSep barCells fun g => reached ER g 0) ∗ (linear c ∗ bundle m c)) ⊢ (T₀ m c : sProp 𝕄) := by
  have hr : (bigSep barCells fun g => (reached ER g 0 : sProp 𝕄)) ⊢ reached ER (barCell (pr c)) 0 :=
    bigSep_elim (Finset.mem_map_of_mem barEmb (Finset.mem_univ (pr c)))
  unfold bundle T₀ Tk
  iintro ⟨⟨#HR, #Hb⟩, Hl, Hh, Hc, HO, Hp⟩
  isplitl [Hh]; · iexact Hh
  isplitl [Hp]; · iexact Hp
  isplitr [HO]
  · isplitr
    · iexists κ
      isplitr; · iexact HR
      iapply hr; iexact Hb
    isplitl [Hl] <;> iassumption
  iexists ∅; iexact HO

variable (ρ : Dev nD → PrngReg)

/-- From the launch to what the devices start with. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ semVal (barCell c) 0 ∗ G c) : sProp 𝕄) := by
    rw [show unscopedBufs c (fun b => m ((c : Thread nD τ).loc b)) = StableHlo.held (c : Thread nD τ) (Pipeline.ucRefs τ sig) (Va m c) from Pipeline.unscopedBufs_held c (Va m c),
      unscoped_one]
    unfold bundle
    iintro ⟨Hh, Hs, HO, Hc, Hp, HG⟩
    isplitr [Hs HG]
    · isplitl [Hh]; · iexact Hh
      isplitl [Hc]; · iapply (credits (F := F) c) $$ Hc
      isplitl [HO]; · iexact HO
      iexists (ρ c); iexact Hp
    isplitl [Hs] <;> iassumption
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop((bigSep Finset.univ (bundle m)) ∗ (bigSep Finset.univ fun c : Dev nD => semVal (barCell c) 0) ∗ bigSep Finset.univ (G (F := F))) : sProp 𝕄) := by
    rw [← bigSep_sep', ← bigSep_sep']
    exact bigSep_mono fun c _ => hcore c
  have hv : (bigSep Finset.univ fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hu : bigSep Finset.univ (G (F := F)) ⊢ (BI.own (ER (launchOf barCells scCells allDue)) : sProp 𝕄) := Entails.of_eq (lodged_all 0 _)
  have hpair : iprop((bigSep Finset.univ fun c : Dev nD => linear c) ∗ bigSep Finset.univ (bundle m)) ⊢ (bigSep Finset.univ fun c : Dev nD => iprop(linear c ∗ bundle m c) : sProp 𝕄) :=
    Entails.of_eq (bigSep_sep' (M := 𝕄) _ _ _).symm
  iintro ⟨H, -⟩
  ihave H := hall $$ H
  icases H with ⟨HB, Hv, HG⟩
  ihave Hv := hv $$ Hv
  ihave HG := hu $$ HG
  imod (Rounds.fund_launch ER (exRd m) cells_disjoint (fun g _ h => h) allDue) $$ [Hv HG] with ⟨%κ, -, #Hinv, #Hr, Hat, Hopen, Htok⟩
  · isplitl [Hv] <;> iassumption
  imodintro
  iapply (bigSep_with_persistent (R := iprop(records m κ ∗ bigSep barCells fun g => reached ER g 0)) (Φ := fun c => iprop(linear c ∗ bundle m c)) fun c _ => start_one m κ c)
  isplitr
  · isplitr
    · iapply (records_intro m κ); iexact Hinv
    iexact Hr
  iapply hpair
  isplitr [HB]
  · iapply (linear_intro (F := F))
    isplitl [Hat]; · iexact Hat
    isplitl [Hopen] <;> iassumption
  iexact HB

theorem unscoped_bar : ∀ sm : SemLoc sig, sm.isScoped .tc = false → sm = .reg barS := by decide

set_option backward.isDefEq.respectTransparency.types false in
/-- From any memory with all counters zero, every weakly fair run of the program on all devices terminates, with both
    arguments unchanged, the result holding `outv`, and all counters zero again. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1))
        ∧ r.2.mem ((c : Thread nD τ).loc main_v2) = outv m c) ∧ r.2.sem = fun _ => 0) :=
  Pipeline.θ_run_regions_kit_sems (pcfgs (F := F)) adm (pdats m) () cellOf_inj EP defs₀ 𝒱₀ L lv m ρ main (parts m)
    (fun c Q => by rw [main_segs adm (pdats m) () 𝒱₀ L lv (reg0 m) (reg1 m)]; rfl)
    (by simp only [parts, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [lodged_all]; iexact HX)
    (T₀ := T₀ m) (Tₙ := Tₙ m)
    (hch := ⟨fun c => reg0_pre m c, fun c => reg0_post m c, fun c => reg1_post m c⟩)
    (hinit := init m ρ)
    (QY := fun c s => (s.mem ((Memref.whole main_arg0).view.loc (c : Thread nD τ)) = Vc m c main_arg0
      ∧ s.mem ((Memref.whole main_arg1).view.loc (c : Thread nD τ)) = Vc m c main_arg1
      ∧ s.mem ((Memref.whole main_v2).view.loc (c : Thread nD τ)) = Vc m c main_v2) ∧ s.sem (barCell c) = 0)
    (hfin := fun c s' => by
      dsimp only [Tₙ]; rw [held_all]
      iintro ⟨⟨⟨H0, H1, -, -, H2⟩, Hb⟩, HSI⟩
      icombine HSI H0 gives %h0
      icombine HSI H1 gives %h1
      icombine HSI H2 gives %h2
      icombine HSI Hb gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        rw [Vc_of m c main_arg0 (by decide), Vb_of m c main_arg0 (by decide)] at h0
        rw [Vc_of m c main_arg1 (by decide), Vb_of m c main_arg1 (by decide)] at h1
        rw [Vc_out] at h2
        exact ⟨⟨h0, h1⟩, h2⟩,
      sem_eq_zero hs fun c sm hsm => by
        obtain rfl := unscoped_bar sm hsm
        exact (h c).2⟩)

end Cert.KernelIdeal.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Equation
public import proofs.«01_k».proof.Proof.Finite
public import proofs.«01_k».proof.Proof.ILaunch
public import proofs.«01_k».proof.Proof.KLaunch
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The program as printed runs on all devices, leaves its arguments alone and ends with every counter at zero. -/
theorem kernel_frame : Cert.quiescent_Kernel := fun m g _ =>
  θ_run_mono (Cert.Kernel.Exchange.run_main m g) fun _ h => ⟨fun c => (h.1 c).1, h.2⟩

/-- So does the idealized program. -/
theorem ideal_frame : Cert.quiescent_KernelIdeal := fun m g _ =>
  θ_run_mono (Cert.KernelIdeal.Exchange.run_main m g) fun _ h => ⟨fun c => (h.1 c).1, h.2⟩

/-- And the reference. -/
theorem reference_frame : Cert.quiescent_ReferenceIdeal := fun m g _ =>
  θ_run_mono (Cert.ReferenceIdeal.Value.run m g) fun _ h =>
    ⟨fun c => (h c).2, funext fun p => match p with | ⟨_, .reg q⟩ => Fin.elim0 q | ⟨_, .dma q⟩ => Fin.elim0 q⟩

/-- **The value claim**: on operands of real entries every device's result is the reference's. -/
theorem same_values : Cert.algebraic_KernelIdeal_ReferenceIdeal_pre_finite_KernelIdeal := by
  intro m g m' g' hpre hin
  have hgiven : Cert.KernelIdeal.Exchange.Given m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    fun c => ⟨(hin c).1, fun k l => (congrFun (hin c).2 (ix2 k l)).trans (Cert.KernelIdeal.Exchange.half_at c _ k l)⟩
  have hreal := Cert.KernelIdeal.Exchange.real_of_parts hgiven (fun c i => Cert.Finite.left_real (hpre c).1 i) (fun c i => Cert.Finite.right_real (hpre c).2 i)
  refine ⟨_, θ_run_mono (Cert.KernelIdeal.Exchange.run_main m g) fun _ h c =>
    ⟨(h.1 c).2.trans (Cert.KernelIdeal.Exchange.result hgiven hreal.1 hreal.2 c), (h.1 c).1⟩,
    θ_run_mono (Cert.ReferenceIdeal.Value.run m' g') fun _ h => ⟨(h 0).1.trans (Cert.ReferenceIdeal.Read.val_main_v9_eq _ _), (h 0).2⟩⟩

/-- Everything claimed. -/
theorem claim : Cert.Claim :=
  ⟨Cert.Kernel.Gen.facts, Cert.KernelIdeal.Gen.facts, Cert.ReferenceIdeal.Gen.facts, Cert.Finite.kernelFacts, Cert.Finite.referenceFacts,
    kernel_frame, ideal_frame, fun m g _ => ideal_frame m g trivial, reference_frame, fun m g _ => reference_frame m g trivial, trivial, same_values⟩

end Cert.Proof

end
